-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Memkv (m : (ℓ : Loc Cert.Memkv.nD Cert.Memkv.τ Cert.Memkv.sig) → Buf (Elt Bits) ℓ) : Prop :=
  True

def Pre_MemkvIdeal (m : (ℓ : Loc Cert.MemkvIdeal.nD Cert.MemkvIdeal.τ Cert.MemkvIdeal.sig) → Buf (Elt Ideal) ℓ) : Prop :=
  True

def Pre_MemkvReferenceIdeal (m : (ℓ : Loc Cert.MemkvReferenceIdeal.nD Cert.MemkvReferenceIdeal.τ Cert.MemkvReferenceIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojReferenceIdeal (m : (ℓ : Loc Cert.OutprojReferenceIdeal.nD Cert.OutprojReferenceIdeal.τ Cert.OutprojReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_finite [hPre_finite : Cert.Pre_finite.Facts] (m : (ℓ : Loc Cert.MixIdeal.nD Cert.MixIdeal.τ Cert.MixIdeal.sig) → Buf (Elt Ideal) ℓ) : Prop :=
  ∀ c : Dev Cert.MixIdeal.nD,
    (Cert.Pre_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4))).1 = (fun _ => 1#1)
    ∧ (Cert.Pre_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4))).2.1 = (fun _ => 1#1)
    ∧ (Cert.Pre_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4))).2.2 = (fun _ => 1#1)

def Pre_MixReferenceIdeal (m : (ℓ : Loc Cert.MixReferenceIdeal.nD Cert.MixReferenceIdeal.τ Cert.MixReferenceIdeal.sig) → Buf (Elt Ideal) ℓ) : Prop :=
  True

def Pre_MixReferenceIdeal_finite [hPre_finite : Cert.Pre_finite.Facts] (m : (ℓ : Loc Cert.MixReferenceIdeal.nD Cert.MixReferenceIdeal.τ Cert.MixReferenceIdeal.sig) → Buf (Elt Ideal) ℓ) : Prop :=
  ∀ c : Dev Cert.MixReferenceIdeal.nD,
    (Cert.Pre_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4))).1 = (fun _ => 1#1)
    ∧ (Cert.Pre_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4))).2.1 = (fun _ => 1#1)
    ∧ (Cert.Pre_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Memkv [hMemkv : Cert.Memkv.Facts] : Prop :=
  ∀ (m : (ℓ : Loc Cert.Memkv.nD Cert.Memkv.τ Cert.Memkv.sig) → Buf (Elt Bits) ℓ) (g : Dev Cert.Memkv.nD → PrngReg), Pre_Memkv m →
    θ_run (Cert.Memkv.defs (F := Bits)) (onTc (τ := Cert.Memkv.τ) (Cert.Memkv.main (F := Bits))) ⟨m, fun _ => 0, g⟩ (fun r => (∀ c : Dev Cert.Memkv.nD,
      r.2.mem ((c.tc : Thread Cert.Memkv.nD Cert.Memkv.τ).loc Cert.Memkv.main_arg0) = m ((c.tc : Thread Cert.Memkv.nD Cert.Memkv.τ).loc Cert.Memkv.main_arg0)
      ∧ r.2.mem ((c.tc : Thread Cert.Memkv.nD Cert.Memkv.τ).loc Cert.Memkv.main_arg1) = m ((c.tc : Thread Cert.Memkv.nD Cert.Memkv.τ).loc Cert.Memkv.main_arg1)
      ∧ r.2.mem ((c.tc : Thread Cert.Memkv.nD Cert.Memkv.τ).loc Cert.Memkv.main_arg2) = m ((c.tc : Thread Cert.Memkv.nD Cert.Memkv.τ).loc Cert.Memkv.main_arg2))
      ∧ r.2.sem = fun _ => 0)

def quiescent_MemkvIdeal [hMemkvIdeal : Cert.MemkvIdeal.Facts] : Prop :=
  ∀ (m : (ℓ : Loc Cert.MemkvIdeal.nD Cert.MemkvIdeal.τ Cert.MemkvIdeal.sig) → Buf (Elt Ideal) ℓ) (g : Dev Cert.MemkvIdeal.nD → PrngReg), Pre_MemkvIdeal m →
    θ_run (Cert.MemkvIdeal.defs (F := Ideal)) (onTc (τ := Cert.MemkvIdeal.τ) (Cert.MemkvIdeal.main (F := Ideal))) ⟨m, fun _ => 0, g⟩ (fun r => (∀ c : Dev Cert.MemkvIdeal.nD,
      r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
      ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
      ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2))
      ∧ r.2.sem = fun _ => 0)

def quiescent_MemkvReferenceIdeal [hMemkvReferenceIdeal : Cert.MemkvReferenceIdeal.Facts] : Prop :=
  ∀ (m : (ℓ : Loc Cert.MemkvReferenceIdeal.nD Cert.MemkvReferenceIdeal.τ Cert.MemkvReferenceIdeal.sig) → Buf (Elt Ideal) ℓ) (g : Dev Cert.MemkvReferenceIdeal.nD → PrngReg), Pre_MemkvReferenceIdeal m →
    θ_run (Cert.MemkvReferenceIdeal.defs (F := Ideal)) (onTc (τ := Cert.MemkvReferenceIdeal.τ) (Cert.MemkvReferenceIdeal.main (F := Ideal))) ⟨m, fun _ => 0, g⟩ (fun r => (∀ c : Dev Cert.MemkvReferenceIdeal.nD,
      r.2.mem ((c.tc : Thread Cert.MemkvReferenceIdeal.nD Cert.MemkvReferenceIdeal.τ).loc Cert.MemkvReferenceIdeal.main_arg0) = m ((c.tc : Thread Cert.MemkvReferenceIdeal.nD Cert.MemkvReferenceIdeal.τ).loc Cert.MemkvReferenceIdeal.main_arg0)
      ∧ r.2.mem ((c.tc : Thread Cert.MemkvReferenceIdeal.nD Cert.MemkvReferenceIdeal.τ).loc Cert.MemkvReferenceIdeal.main_arg1) = m ((c.tc : Thread Cert.MemkvReferenceIdeal.nD Cert.MemkvReferenceIdeal.τ).loc Cert.MemkvReferenceIdeal.main_arg1)
      ∧ r.2.mem ((c.tc : Thread Cert.MemkvReferenceIdeal.nD Cert.MemkvReferenceIdeal.τ).loc Cert.MemkvReferenceIdeal.main_arg2) = m ((c.tc : Thread Cert.MemkvReferenceIdeal.nD Cert.MemkvReferenceIdeal.τ).loc Cert.MemkvReferenceIdeal.main_arg2))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3))
      ∧ r.2.sem = fun _ => 0)

def quiescent_OutprojReferenceIdeal [hOutprojReferenceIdeal : Cert.OutprojReferenceIdeal.Facts] : Prop :=
  ∀ (m : (ℓ : Loc Cert.OutprojReferenceIdeal.nD Cert.OutprojReferenceIdeal.τ Cert.OutprojReferenceIdeal.sig) → Buf (Elt Ideal) ℓ) (g : Dev Cert.OutprojReferenceIdeal.nD → PrngReg), Pre_OutprojReferenceIdeal m →
    θ_run (Cert.OutprojReferenceIdeal.defs (F := Ideal)) (onTc (τ := Cert.OutprojReferenceIdeal.τ) (Cert.OutprojReferenceIdeal.main (F := Ideal))) ⟨m, fun _ => 0, g⟩ (fun r => (∀ c : Dev Cert.OutprojReferenceIdeal.nD,
      r.2.mem ((c.tc : Thread Cert.OutprojReferenceIdeal.nD Cert.OutprojReferenceIdeal.τ).loc Cert.OutprojReferenceIdeal.main_arg0) = m ((c.tc : Thread Cert.OutprojReferenceIdeal.nD Cert.OutprojReferenceIdeal.τ).loc Cert.OutprojReferenceIdeal.main_arg0)
      ∧ r.2.mem ((c.tc : Thread Cert.OutprojReferenceIdeal.nD Cert.OutprojReferenceIdeal.τ).loc Cert.OutprojReferenceIdeal.main_arg1) = m ((c.tc : Thread Cert.OutprojReferenceIdeal.nD Cert.OutprojReferenceIdeal.τ).loc Cert.OutprojReferenceIdeal.main_arg1)
      ∧ r.2.mem ((c.tc : Thread Cert.OutprojReferenceIdeal.nD Cert.OutprojReferenceIdeal.τ).loc Cert.OutprojReferenceIdeal.main_arg2) = m ((c.tc : Thread Cert.OutprojReferenceIdeal.nD Cert.OutprojReferenceIdeal.τ).loc Cert.OutprojReferenceIdeal.main_arg2)
      ∧ r.2.mem ((c.tc : Thread Cert.OutprojReferenceIdeal.nD Cert.OutprojReferenceIdeal.τ).loc Cert.OutprojReferenceIdeal.main_arg3) = m ((c.tc : Thread Cert.OutprojReferenceIdeal.nD Cert.OutprojReferenceIdeal.τ).loc Cert.OutprojReferenceIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ r.2.sem = fun _ => 0)

def quiescent_MixIdeal_pre_finite [hMixIdeal : Cert.MixIdeal.Facts] [hPre_finite : Cert.Pre_finite.Facts] : Prop :=
  ∀ (m : (ℓ : Loc Cert.MixIdeal.nD Cert.MixIdeal.τ Cert.MixIdeal.sig) → Buf (Elt Ideal) ℓ) (g : Dev Cert.MixIdeal.nD → PrngReg), Pre_MixIdeal_finite m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4))
      ∧ r.2.sem = fun _ => 0)

def quiescent_MixReferenceIdeal_pre_finite [hMixReferenceIdeal : Cert.MixReferenceIdeal.Facts] [hPre_finite : Cert.Pre_finite.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal_finite m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Memkv_MemkvIdeal : Prop :=
  True

def algebraic_MemkvIdeal_MemkvReferenceIdeal [hMemkvIdeal : Cert.MemkvIdeal.Facts] [hMemkvReferenceIdeal : Cert.MemkvReferenceIdeal.Facts] : Prop :=
  ∀ (m : (ℓ : Loc Cert.MemkvIdeal.nD Cert.MemkvIdeal.τ Cert.MemkvIdeal.sig) → Buf (Elt Ideal) ℓ) (g : Dev Cert.MemkvIdeal.nD → PrngReg)
    (m' : (ℓ : Loc Cert.MemkvReferenceIdeal.nD Cert.MemkvReferenceIdeal.τ Cert.MemkvReferenceIdeal.sig) → Buf (Elt Ideal) ℓ) (g' : Dev Cert.MemkvReferenceIdeal.nD → PrngReg), Pre_MemkvIdeal m →
    (∀ c : Dev Cert.MemkvIdeal.nD,
      m' ((c.tc : Thread Cert.MemkvReferenceIdeal.nD Cert.MemkvReferenceIdeal.τ).loc Cert.MemkvReferenceIdeal.main_arg0) = m ((c.tc : Thread Cert.MemkvIdeal.nD Cert.MemkvIdeal.τ).loc Cert.MemkvIdeal.main_arg0)
      ∧ m' ((c.tc : Thread Cert.MemkvReferenceIdeal.nD Cert.MemkvReferenceIdeal.τ).loc Cert.MemkvReferenceIdeal.main_arg1) = m ((c.tc : Thread Cert.MemkvIdeal.nD Cert.MemkvIdeal.τ).loc Cert.MemkvIdeal.main_arg1)
      ∧ m' ((c.tc : Thread Cert.MemkvReferenceIdeal.nD Cert.MemkvReferenceIdeal.τ).loc Cert.MemkvReferenceIdeal.main_arg2) = m ((c.tc : Thread Cert.MemkvIdeal.nD Cert.MemkvIdeal.τ).loc Cert.MemkvIdeal.main_arg2)) →
    ∃ (v0 : (c : Dev Cert.MemkvIdeal.nD) → Buf (Elt Ideal) ((c.tc : Thread Cert.MemkvIdeal.nD Cert.MemkvIdeal.τ).loc Cert.MemkvIdeal.main_v5)),
      θ_run (Cert.MemkvIdeal.defs (F := Ideal)) (onTc (τ := Cert.MemkvIdeal.τ) (Cert.MemkvIdeal.main (F := Ideal))) ⟨m, fun _ => 0, g⟩ (fun r => ∀ c : Dev Cert.MemkvIdeal.nD,
          r.2.mem ((c.tc : Thread Cert.MemkvIdeal.nD Cert.MemkvIdeal.τ).loc Cert.MemkvIdeal.main_v5) = v0 c
          ∧ r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
          ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
          ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2))
      ∧ θ_run (Cert.MemkvReferenceIdeal.defs (F := Ideal)) (onTc (τ := Cert.MemkvReferenceIdeal.τ) (Cert.MemkvReferenceIdeal.main (F := Ideal))) ⟨m', fun _ => 0, g'⟩ (fun r => ∀ c : Dev Cert.MemkvReferenceIdeal.nD,
          r.2.mem ((c.tc : Thread Cert.MemkvReferenceIdeal.nD Cert.MemkvReferenceIdeal.τ).loc Cert.MemkvReferenceIdeal.main_v16) = v0 c
          ∧ r.2.mem ((c.tc : Thread Cert.MemkvReferenceIdeal.nD Cert.MemkvReferenceIdeal.τ).loc Cert.MemkvReferenceIdeal.main_arg0) = m' ((c.tc : Thread Cert.MemkvReferenceIdeal.nD Cert.MemkvReferenceIdeal.τ).loc Cert.MemkvReferenceIdeal.main_arg0)
          ∧ r.2.mem ((c.tc : Thread Cert.MemkvReferenceIdeal.nD Cert.MemkvReferenceIdeal.τ).loc Cert.MemkvReferenceIdeal.main_arg1) = m' ((c.tc : Thread Cert.MemkvReferenceIdeal.nD Cert.MemkvReferenceIdeal.τ).loc Cert.MemkvReferenceIdeal.main_arg1)
          ∧ r.2.mem ((c.tc : Thread Cert.MemkvReferenceIdeal.nD Cert.MemkvReferenceIdeal.τ).loc Cert.MemkvReferenceIdeal.main_arg2) = m' ((c.tc : Thread Cert.MemkvReferenceIdeal.nD Cert.MemkvReferenceIdeal.τ).loc Cert.MemkvReferenceIdeal.main_arg2))

def preserves_Outproj_OutprojIdeal : Prop :=
  True

def algebraic_OutprojIdeal_OutprojReferenceIdeal [hOutprojIdeal : Cert.OutprojIdeal.Facts] [hOutprojReferenceIdeal : Cert.OutprojReferenceIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojReferenceIdeal.nD Cert.OutprojReferenceIdeal.τ Cert.OutprojReferenceIdeal.sig) → Buf (Elt Ideal) ℓ) (g' : Dev Cert.OutprojReferenceIdeal.nD → PrngReg), Pre_OutprojIdeal m →
    (∀ c : Dev Cert.OutprojIdeal.nD,
      m' ((c.tc : Thread Cert.OutprojReferenceIdeal.nD Cert.OutprojReferenceIdeal.τ).loc Cert.OutprojReferenceIdeal.main_arg0) = m ((c.tc : Thread Cert.OutprojIdeal.nD Cert.OutprojIdeal.τ).loc Cert.OutprojIdeal.main_arg0)
      ∧ m' ((c.tc : Thread Cert.OutprojReferenceIdeal.nD Cert.OutprojReferenceIdeal.τ).loc Cert.OutprojReferenceIdeal.main_arg1) = m ((c.tc : Thread Cert.OutprojIdeal.nD Cert.OutprojIdeal.τ).loc Cert.OutprojIdeal.main_arg1)
      ∧ m' ((c.tc : Thread Cert.OutprojReferenceIdeal.nD Cert.OutprojReferenceIdeal.τ).loc Cert.OutprojReferenceIdeal.main_arg2) = m ((c.tc : Thread Cert.OutprojIdeal.nD Cert.OutprojIdeal.τ).loc Cert.OutprojIdeal.main_arg2)
      ∧ m' ((c.tc : Thread Cert.OutprojReferenceIdeal.nD Cert.OutprojReferenceIdeal.τ).loc Cert.OutprojReferenceIdeal.main_arg3) = m ((c.tc : Thread Cert.OutprojIdeal.nD Cert.OutprojIdeal.τ).loc Cert.OutprojIdeal.main_arg3)) →
    ∃ (v0 : (c : Dev Cert.OutprojIdeal.nD) → Buf (Elt Ideal) ((c.tc : Thread Cert.OutprojIdeal.nD Cert.OutprojIdeal.τ).loc Cert.OutprojIdeal.main_v4)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v4) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3))
      ∧ θ_run (Cert.OutprojReferenceIdeal.defs (F := Ideal)) (onTc (τ := Cert.OutprojReferenceIdeal.τ) (Cert.OutprojReferenceIdeal.main (F := Ideal))) ⟨m', fun _ => 0, g'⟩ (fun r => ∀ c : Dev Cert.OutprojReferenceIdeal.nD,
          r.2.mem ((c.tc : Thread Cert.OutprojReferenceIdeal.nD Cert.OutprojReferenceIdeal.τ).loc Cert.OutprojReferenceIdeal.main_v17) = v0 c
          ∧ r.2.mem ((c.tc : Thread Cert.OutprojReferenceIdeal.nD Cert.OutprojReferenceIdeal.τ).loc Cert.OutprojReferenceIdeal.main_arg0) = m' ((c.tc : Thread Cert.OutprojReferenceIdeal.nD Cert.OutprojReferenceIdeal.τ).loc Cert.OutprojReferenceIdeal.main_arg0)
          ∧ r.2.mem ((c.tc : Thread Cert.OutprojReferenceIdeal.nD Cert.OutprojReferenceIdeal.τ).loc Cert.OutprojReferenceIdeal.main_arg1) = m' ((c.tc : Thread Cert.OutprojReferenceIdeal.nD Cert.OutprojReferenceIdeal.τ).loc Cert.OutprojReferenceIdeal.main_arg1)
          ∧ r.2.mem ((c.tc : Thread Cert.OutprojReferenceIdeal.nD Cert.OutprojReferenceIdeal.τ).loc Cert.OutprojReferenceIdeal.main_arg2) = m' ((c.tc : Thread Cert.OutprojReferenceIdeal.nD Cert.OutprojReferenceIdeal.τ).loc Cert.OutprojReferenceIdeal.main_arg2)
          ∧ r.2.mem ((c.tc : Thread Cert.OutprojReferenceIdeal.nD Cert.OutprojReferenceIdeal.τ).loc Cert.OutprojReferenceIdeal.main_arg3) = m' ((c.tc : Thread Cert.OutprojReferenceIdeal.nD Cert.OutprojReferenceIdeal.τ).loc Cert.OutprojReferenceIdeal.main_arg3))

def preserves_Mix_MixIdeal : Prop :=
  True

def algebraic_MixIdeal_MixReferenceIdeal_on_attention_pre_finite [hMixIdeal : Cert.MixIdeal.Facts] [hMixReferenceIdeal : Cert.MixReferenceIdeal.Facts] [hPre_finite : Cert.Pre_finite.Facts] [hOn_attention : Cert.On_attention.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal_finite m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)) →
    ∃ (v0 : (c : Dev Cert.MixIdeal.nD) → Buf (Elt Ideal) ((c.tc : Thread Cert.MixIdeal.nD Cert.MixIdeal.τ).loc Cert.MixIdeal.main_v52_0)) (v1 : (c : Dev Cert.MixIdeal.nD) → Buf (Elt Ideal) ((c.tc : Thread Cert.MixIdeal.nD Cert.MixIdeal.τ).loc Cert.MixIdeal.main_v52_1)) (v2 : (c : Dev Cert.MixIdeal.nD) → Buf (Elt Ideal) ((c.tc : Thread Cert.MixIdeal.nD Cert.MixIdeal.τ).loc Cert.MixIdeal.main_v52_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          (∀ i : (⟨2, ![16384, 2048]⟩ : Shape).Idx, (Cert.On_attention.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4))).1 i = 1#1 → r.2.mem ((c.tc : Thread Cert.MixIdeal.nD Cert.MixIdeal.τ).loc Cert.MixIdeal.main_v52_0) i = v0 c i)
          ∧ (∀ i : (⟨2, ![128, 256]⟩ : Shape).Idx, (Cert.On_attention.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4))).2.1 i = 1#1 → r.2.mem ((c.tc : Thread Cert.MixIdeal.nD Cert.MixIdeal.τ).loc Cert.MixIdeal.main_v52_1) i = v1 c i)
          ∧ (∀ i : (⟨2, ![128, 256]⟩ : Shape).Idx, (Cert.On_attention.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4))).2.2 i = 1#1 → r.2.mem ((c.tc : Thread Cert.MixIdeal.nD Cert.MixIdeal.τ).loc Cert.MixIdeal.main_v52_2) i = v2 c i)
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          (∀ i : (⟨2, ![16384, 2048]⟩ : Shape).Idx, (Cert.On_attention.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4))).1 i = 1#1 → r.2.mem ((c.tc : Thread Cert.MixReferenceIdeal.nD Cert.MixReferenceIdeal.τ).loc Cert.MixReferenceIdeal.main_v170) i = v0 c i)
          ∧ (∀ i : (⟨2, ![128, 256]⟩ : Shape).Idx, (Cert.On_attention.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4))).2.1 i = 1#1 → r.2.mem ((c.tc : Thread Cert.MixReferenceIdeal.nD Cert.MixReferenceIdeal.τ).loc Cert.MixReferenceIdeal.main_v172) i = v1 c i)
          ∧ (∀ i : (⟨2, ![128, 256]⟩ : Shape).Idx, (Cert.On_attention.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4))).2.2 i = 1#1 → r.2.mem ((c.tc : Thread Cert.MixReferenceIdeal.nD Cert.MixReferenceIdeal.τ).loc Cert.MixReferenceIdeal.main_v174) i = v2 c i)
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4))

def Claim : Prop :=
  ∃ (hKernel : Cert.Kernel.Facts) (hKernelIdeal : Cert.KernelIdeal.Facts) (hReferenceIdeal : Cert.ReferenceIdeal.Facts) (hMemkv : Cert.Memkv.Facts) (hMemkvIdeal : Cert.MemkvIdeal.Facts) (hMemkvReferenceIdeal : Cert.MemkvReferenceIdeal.Facts) (hOutproj : Cert.Outproj.Facts) (hOutprojIdeal : Cert.OutprojIdeal.Facts) (hOutprojReferenceIdeal : Cert.OutprojReferenceIdeal.Facts) (hMix : Cert.Mix.Facts) (hMixIdeal : Cert.MixIdeal.Facts) (hMixReferenceIdeal : Cert.MixReferenceIdeal.Facts) (hPre_finite : Cert.Pre_finite.Facts) (hOn_attention : Cert.On_attention.Facts),
    quiescent_Kernel (hKernel := hKernel)
    ∧ quiescent_KernelIdeal (hKernelIdeal := hKernelIdeal)
    ∧ quiescent_ReferenceIdeal (hReferenceIdeal := hReferenceIdeal)
    ∧ quiescent_Memkv (hMemkv := hMemkv)
    ∧ quiescent_MemkvIdeal (hMemkvIdeal := hMemkvIdeal)
    ∧ quiescent_MemkvReferenceIdeal (hMemkvReferenceIdeal := hMemkvReferenceIdeal)
    ∧ quiescent_Outproj (hOutproj := hOutproj)
    ∧ quiescent_OutprojIdeal (hOutprojIdeal := hOutprojIdeal)
    ∧ quiescent_OutprojReferenceIdeal (hOutprojReferenceIdeal := hOutprojReferenceIdeal)
    ∧ quiescent_Mix (hMix := hMix)
    ∧ quiescent_MixIdeal (hMixIdeal := hMixIdeal)
    ∧ quiescent_MixIdeal_pre_finite (hMixIdeal := hMixIdeal) (hPre_finite := hPre_finite)
    ∧ quiescent_MixReferenceIdeal (hMixReferenceIdeal := hMixReferenceIdeal)
    ∧ quiescent_MixReferenceIdeal_pre_finite (hMixReferenceIdeal := hMixReferenceIdeal) (hPre_finite := hPre_finite)
    ∧ preserves_Kernel_KernelIdeal
    ∧ algebraic_KernelIdeal_ReferenceIdeal (hKernelIdeal := hKernelIdeal) (hReferenceIdeal := hReferenceIdeal)
    ∧ preserves_Memkv_MemkvIdeal
    ∧ algebraic_MemkvIdeal_MemkvReferenceIdeal (hMemkvIdeal := hMemkvIdeal) (hMemkvReferenceIdeal := hMemkvReferenceIdeal)
    ∧ preserves_Outproj_OutprojIdeal
    ∧ algebraic_OutprojIdeal_OutprojReferenceIdeal (hOutprojIdeal := hOutprojIdeal) (hOutprojReferenceIdeal := hOutprojReferenceIdeal)
    ∧ preserves_Mix_MixIdeal
    ∧ algebraic_MixIdeal_MixReferenceIdeal_on_attention_pre_finite (hMixIdeal := hMixIdeal) (hMixReferenceIdeal := hMixReferenceIdeal) (hPre_finite := hPre_finite) (hOn_attention := hOn_attention)
-- ==== On_attention.lean ====
abbrev S8 : Shape := ⟨1, ![8]⟩
abbrev S16384x5632 : Shape := ⟨2, ![16384, 5632]⟩
abbrev S16384x128 : Shape := ⟨2, ![16384, 128]⟩
abbrev S256x512 : Shape := ⟨2, ![256, 512]⟩
abbrev S16384x2048 : Shape := ⟨2, ![16384, 2048]⟩
abbrev S_ : Shape := ⟨0, ![]⟩
abbrev S128x256 : Shape := ⟨2, ![128, 256]⟩

class Facts : Prop where
  bcast_S_S16384x2048 : S_.BroadcastsInDim S16384x2048 (![] : Fin 0 → Fin S16384x2048.rank)
  bcast_S_S128x256 : S_.BroadcastsInDim S128x256 (![] : Fin 0 → Fin S128x256.rank)

variable [Facts]

def fn {F : FTy → Type} [FloatOps F] (main_arg0 : FVec F S8 .f32) (main_arg1 : FVec F S16384x5632 .f32) (main_arg2 : FVec F S16384x128 .f32) (main_arg3 : FVec F S256x512 .bf16) (main_arg4 : FVec F S256x512 .bf16) : IVec S16384x2048 1 × IVec S128x256 1 × IVec S128x256 1 :=
  let main_v0 : IVec S16384x2048 32 := iotaInDim S16384x2048 32 1
  let main_c : IVec S_ 32 := constantI S_ 32 1024#32
  let main_v1 : IVec S16384x2048 32 := broadcastInDim S16384x2048 ![] bcast_S_S16384x2048 main_c
  let main_v2 : IVec S16384x2048 1 := cmpi .slt main_v0 main_v1
  let main_c_0 : IVec S_ 32 := constantI S_ 32 1536#32
  let main_v3 : IVec S16384x2048 32 := broadcastInDim S16384x2048 ![] bcast_S_S16384x2048 main_c_0
  let main_v4 : IVec S16384x2048 1 := cmpi .sge main_v0 main_v3
  let main_v5 : IVec S16384x2048 1 := ori main_v2 main_v4
  let main_c_1 : IVec S_ 1 := constantI S_ 1 1#1
  let main_v6 : IVec S128x256 1 := broadcastInDim S128x256 ![] bcast_S_S128x256 main_c_1
  let main_c_2 : IVec S_ 1 := constantI S_ 1 1#1
  let main_v7 : IVec S128x256 1 := broadcastInDim S128x256 ![] bcast_S_S128x256 main_c_2
  (main_v5, main_v6, main_v7)
-- ==== Pre_finite.lean ====
abbrev S8 : Shape := ⟨1, ![8]⟩
abbrev S16384x5632 : Shape := ⟨2, ![16384, 5632]⟩
abbrev S16384x128 : Shape := ⟨2, ![16384, 128]⟩
abbrev S256x512 : Shape := ⟨2, ![256, 512]⟩
abbrev S_ : Shape := ⟨0, ![]⟩

class Facts : Prop where
  bcast_S_S8 : S_.BroadcastsInDim S8 (![] : Fin 0 → Fin S8.rank)
  bcast_S_S16384x5632 : S_.BroadcastsInDim S16384x5632 (![] : Fin 0 → Fin S16384x5632.rank)
  bitsLt_bf16_f32 : FTy.bits .bf16 < FTy.bits .f32
  bcast_S_S256x512 : S_.BroadcastsInDim S256x512 (![] : Fin 0 → Fin S256x512.rank)

variable [Facts]

def fn {F : FTy → Type} [FloatOps F] (main_arg0 : FVec F S8 .f32) (main_arg1 : FVec F S16384x5632 .f32) (main_arg2 : FVec F S16384x128 .f32) (main_arg3 : FVec F S256x512 .bf16) (main_arg4 : FVec F S256x512 .bf16) : IVec S8 1 × IVec S16384x5632 1 × IVec S256x512 1 :=
  let main_v0 : FVec F S8 .f32 := Host.absf main_arg0
  let main_cst : FVec F S_ .f32 := constant S_ .f32 0x7F800000#32
  let main_v1 : FVec F S8 .f32 := broadcastInDim S8 ![] bcast_S_S8 main_cst
  let main_v2 : IVec S8 1 := cmpf .olt main_v0 main_v1
  let main_v3 : FVec F S16384x5632 .f32 := Host.absf main_arg1
  let main_cst_0 : FVec F S_ .f32 := constant S_ .f32 0x7F800000#32
  let main_v4 : FVec F S16384x5632 .f32 := broadcastInDim S16384x5632 ![] bcast_S_S16384x5632 main_cst_0
  let main_v5 : IVec S16384x5632 1 := cmpf .olt main_v3 main_v4
  let main_v6 : FVec F S256x512 .f32 := (extf .f32 · bitsLt_bf16_f32) main_arg3
  let main_v7 : FVec F S256x512 .f32 := Host.absf main_v6
  let main_cst_1 : FVec F S_ .f32 := constant S_ .f32 0x7F800000#32
  let main_v8 : FVec F S256x512 .f32 := broadcastInDim S256x512 ![] bcast_S_S256x512 main_cst_1
  let main_v9 : IVec S256x512 1 := cmpf .olt main_v7 main_v8
  (main_v2, main_v5, main_v9)
-- ==== Kernel.lean ====
abbrev S1x16384x2048 : Shape := ⟨3, ![1, 16384, 2048]⟩
abbrev S1x2048 : Shape := ⟨2, ![1, 2048]⟩
abbrev S1x2048x5640 : Shape := ⟨3, ![1, 2048, 5640]⟩
abbrev S1x5640 : Shape := ⟨2, ![1, 5640]⟩
abbrev S16384x2048 : Shape := ⟨2, ![16384, 2048]⟩
abbrev S2048x5640 : Shape := ⟨2, ![2048, 5640]⟩
abbrev S5640 : Shape := ⟨1, ![5640]⟩
abbrev S2048x3584 : Shape := ⟨2, ![2048, 3584]⟩
abbrev S2048x2048 : Shape := ⟨2, ![2048, 2048]⟩
abbrev S2048x5632 : Shape := ⟨2, ![2048, 5632]⟩
abbrev S3584 : Shape := ⟨1, ![3584]⟩
abbrev S2048 : Shape := ⟨1, ![2048]⟩
abbrev S5632 : Shape := ⟨1, ![5632]⟩
abbrev S1x5632 : Shape := ⟨2, ![1, 5632]⟩
abbrev S_ : Shape := ⟨0, ![]⟩
abbrev S2048x120 : Shape := ⟨2, ![2048, 120]⟩
abbrev S2048x8 : Shape := ⟨2, ![2048, 8]⟩
abbrev S2048x128 : Shape := ⟨2, ![2048, 128]⟩
abbrev S120 : Shape := ⟨1, ![120]⟩
abbrev S8 : Shape := ⟨1, ![8]⟩
abbrev S128 : Shape := ⟨1, ![128]⟩
abbrev S1x128 : Shape := ⟨2, ![1, 128]⟩
abbrev S16384x5632 : Shape := ⟨2, ![16384, 5632]⟩
abbrev S16384x128 : Shape := ⟨2, ![16384, 128]⟩
abbrev S1024x2048 : Shape := ⟨2, ![1024, 2048]⟩
abbrev S2048x512 : Shape := ⟨2, ![2048, 512]⟩
abbrev S1x512 : Shape := ⟨2, ![1, 512]⟩
abbrev S1024x512 : Shape := ⟨2, ![1024, 512]⟩
abbrev S1024x128 : Shape := ⟨2, ![1024, 128]⟩
abbrev S256x2048 : Shape := ⟨2, ![256, 2048]⟩
abbrev S256 : Shape := ⟨1, ![256]⟩
abbrev S256x1 : Shape := ⟨2, ![256, 1]⟩

abbrev nBuf : Space → Nat
  | .hbm => 29
  | .vmem => 14
  | .smem => 0
  | _ => 0

abbrev bufTy : (tb : Table) → Fin (tcTables nBuf tb) → BufTy
  | .hbm, ⟨0, _⟩ => ⟨S1x16384x2048, .f32⟩
  | .hbm, ⟨1, _⟩ => ⟨S1x2048, .f32⟩
  | .hbm, ⟨2, _⟩ => ⟨S1x2048x5640, .f32⟩
  | .hbm, ⟨3, _⟩ => ⟨S1x5640, .f32⟩
  | .hbm, ⟨4, _⟩ => ⟨S16384x2048, .f32⟩
  | .hbm, ⟨5, _⟩ => ⟨S2048x5640, .f32⟩
  | .hbm, ⟨6, _⟩ => ⟨S5640, .f32⟩
  | .hbm, ⟨7, _⟩ => ⟨S2048x3584, .f32⟩
  | .hbm, ⟨8, _⟩ => ⟨S2048x2048, .f32⟩
  | .hbm, ⟨9, _⟩ => ⟨S2048x5632, .f32⟩
  | .hbm, ⟨10, _⟩ => ⟨S2048x5632, .bf16⟩
  | .hbm, ⟨11, _⟩ => ⟨S3584, .f32⟩
  | .hbm, ⟨12, _⟩ => ⟨S2048, .f32⟩
  | .hbm, ⟨13, _⟩ => ⟨S5632, .f32⟩
  | .hbm, ⟨14, _⟩ => ⟨S1x5632, .f32⟩
  | .hbm, ⟨15, _⟩ => ⟨S_, .f32⟩
  | .hbm, ⟨16, _⟩ => ⟨S2048x120, .f32⟩
  | .hbm, ⟨17, _⟩ => ⟨S2048x8, .f32⟩
  | .hbm, ⟨18, _⟩ => ⟨S2048x128, .f32⟩
  | .hbm, ⟨19, _⟩ => ⟨S2048x128, .bf16⟩
  | .hbm, ⟨20, _⟩ => ⟨S_, .f32⟩
  | .hbm, ⟨21, _⟩ => ⟨S120, .f32⟩
  | .hbm, ⟨22, _⟩ => ⟨S8, .f32⟩
  | .hbm, ⟨23, _⟩ => ⟨S128, .f32⟩
  | .hbm, ⟨24, _⟩ => ⟨S1x128, .f32⟩
  | .hbm, ⟨25, _⟩ => ⟨S2048, .f32⟩
  | .hbm, ⟨26, _⟩ => ⟨S1x2048, .f32⟩
  | .hbm, ⟨27, _⟩ => ⟨S16384x5632, .f32⟩
  | .hbm, ⟨28, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1x512, .f32⟩
  | .local _ .vmem, ⟨6, _⟩ => ⟨S1x512, .f32⟩
  | .local _ .vmem, ⟨7, _⟩ => ⟨S2048x128, .bf16⟩
  | .local _ .vmem, ⟨8, _⟩ => ⟨S1x128, .f32⟩
  | .local _ .vmem, ⟨9, _⟩ => ⟨S1024x512, .f32⟩
  | .local _ .vmem, ⟨10, _⟩ => ⟨S1024x512, .f32⟩
  | .local _ .vmem, ⟨11, _⟩ => ⟨S1024x128, .f32⟩
  | .local _ .vmem, ⟨12, _⟩ => ⟨S1024x128, .f32⟩
  | .local _ .vmem, ⟨13, _⟩ => ⟨S1024x2048, .bf16⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21_0 : Ref sig .tc := ⟨.hbm, 27, rfl⟩
abbrev main_v21_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S1x16384x2048 : Shape := ⟨3, ![1, 16384, 2048]⟩
abbrev S1x2048 : Shape := ⟨2, ![1, 2048]⟩
abbrev S1x2048x5640 : Shape := ⟨3, ![1, 2048, 5640]⟩
abbrev S1x5640 : Shape := ⟨2, ![1, 5640]⟩
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S2048x5640 : Shape := ⟨2, ![2048, 5640]⟩
abbrev S16384x5640 : Shape := ⟨2, ![16384, 5640]⟩
abbrev S5640 : Shape := ⟨1, ![5640]⟩
abbrev S16384x1024 : Shape := ⟨2, ![16384, 1024]⟩
abbrev S16384x256 : Shape := ⟨2, ![16384, 256]⟩
abbrev S16384x512 : Shape := ⟨2, ![16384, 512]⟩
abbrev S16384x4 : Shape := ⟨2, ![16384, 4]⟩
abbrev S16384x120 : Shape := ⟨2, ![16384, 120]⟩
abbrev S16384x5632 : Shape := ⟨2, ![16384, 5632]⟩
abbrev S16384x128 : Shape := ⟨2, ![16384, 128]⟩

abbrev nBuf : Space → Nat
  | .hbm => 45
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S1x2048, .f32⟩
  | .hbm, ⟨2, _⟩ => ⟨S1x2048x5640, .f32⟩
  | .hbm, ⟨3, _⟩ => ⟨S1x5640, .f32⟩
  | .hbm, ⟨4, _⟩ => ⟨S16384x2048, .f32⟩
  | .hbm, ⟨5, _⟩ => ⟨S2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S2048x5640, .f32⟩
  | .hbm, ⟨23, _⟩ => ⟨S16384x5640, .f32⟩
  | .hbm, ⟨24, _⟩ => ⟨S5640, .f32⟩
  | .hbm, ⟨25, _⟩ => ⟨S1x5640, .f32⟩
  | .hbm, ⟨26, _⟩ => ⟨S16384x5640, .f32⟩
  | .hbm, ⟨27, _⟩ => ⟨S16384x5640, .f32⟩
  | .hbm, ⟨28, _⟩ => ⟨S16384x1024, .f32⟩
  | .hbm, ⟨29, _⟩ => ⟨S16384x256, .f32⟩
  | .hbm, ⟨30, _⟩ => ⟨S16384x256, .f32⟩
  | .hbm, ⟨31, _⟩ => ⟨S16384x1024, .f32⟩
  | .hbm, ⟨32, _⟩ => ⟨S16384x256, .f32⟩
  | .hbm, ⟨33, _⟩ => ⟨S16384x256, .f32⟩
  | .hbm, ⟨34, _⟩ => ⟨S16384x512, .f32⟩
  | .hbm, ⟨35, _⟩ => ⟨S16384x4, .f32⟩
  | .hbm, ⟨36, _⟩ => ⟨S16384x4, .f32⟩
  | .hbm, ⟨37, _⟩ => ⟨S16384x512, .f32⟩
  | .hbm, ⟨38, _⟩ => ⟨S16384x512, .f32⟩
  | .hbm, ⟨39, _⟩ => ⟨S16384x512, .f32⟩
  | .hbm, ⟨40, _⟩ => ⟨S16384x512, .f32⟩
  | .hbm, ⟨41, _⟩ => ⟨S_, .f32⟩
  | .hbm, ⟨42, _⟩ => ⟨S16384x120, .f32⟩
  | .hbm, ⟨43, _⟩ => ⟨S16384x5632, .f32⟩
  | .hbm, ⟨44, _⟩ => ⟨S16384x128, .f32⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_2 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩

abbrev nD : Nat := 1
abbrev τ : Topo := Topo.v7x

variable {F : FTy → Type} [FloatOps F]
-- ==== Memkv.lean ====
abbrev S1x256x2048 : Shape := ⟨3, ![1, 256, 2048]⟩
abbrev S1x2048 : Shape := ⟨2, ![1, 2048]⟩
abbrev S1x2048x1024 : Shape := ⟨3, ![1, 2048, 1024]⟩
abbrev S256x2048 : Shape := ⟨2, ![256, 2048]⟩
abbrev S2048 : Shape := ⟨1, ![2048]⟩
abbrev S2048x1024 : Shape := ⟨2, ![2048, 1024]⟩
abbrev S256x1024 : Shape := ⟨2, ![256, 1024]⟩
abbrev S2048x256 : Shape := ⟨2, ![2048, 256]⟩
abbrev S256x256 : Shape := ⟨2, ![256, 256]⟩
abbrev S256 : Shape := ⟨1, ![256]⟩
abbrev S256x1 : Shape := ⟨2, ![256, 1]⟩

abbrev nBuf : Space → Nat
  | .hbm => 9
  | .vmem => 6
  | .smem => 0
  | _ => 0

abbrev bufTy : (tb : Table) → Fin (tcTables nBuf tb) → BufTy
  | .hbm, ⟨0, _⟩ => ⟨S1x256x2048, .f32⟩
  | .hbm, ⟨1, _⟩ => ⟨S1x2048, .f32⟩
  | .hbm, ⟨2, _⟩ => ⟨S1x2048x1024, .f32⟩
  | .hbm, ⟨3, _⟩ => ⟨S256x2048, .f32⟩
  | .hbm, ⟨4, _⟩ => ⟨S2048, .f32⟩
  | .hbm, ⟨5, _⟩ => ⟨S1x2048, .f32⟩
  | .hbm, ⟨6, _⟩ => ⟨S2048x1024, .f32⟩
  | .hbm, ⟨7, _⟩ => ⟨S2048x1024, .bf16⟩
  | .hbm, ⟨8, _⟩ => ⟨S256x1024, .f32⟩
  | .local _ .vmem, ⟨0, _⟩ => ⟨S256x2048, .f32⟩
  | .local _ .vmem, ⟨1, _⟩ => ⟨S1x2048, .f32⟩
  | .local _ .vmem, ⟨2, _⟩ => ⟨S2048x256, .bf16⟩
  | .local _ .vmem, ⟨3, _⟩ => ⟨S2048x256, .bf16⟩
  | .local _ .vmem, ⟨4, _⟩ => ⟨S256x256, .f32⟩
  | .local _ .vmem, ⟨5, _⟩ => ⟨S256x256, .f32⟩
  | _, _ => ⟨S1x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MemkvReferenceIdeal.lean ====
abbrev S1x256x2048 : Shape := ⟨3, ![1, 256, 2048]⟩
abbrev S1x2048 : Shape := ⟨2, ![1, 2048]⟩
abbrev S1x2048x1024 : Shape := ⟨3, ![1, 2048, 1024]⟩
abbrev S256x2048 : Shape := ⟨2, ![256, 2048]⟩
abbrev S2048 : Shape := ⟨1, ![2048]⟩
abbrev S_ : Shape := ⟨0, ![]⟩
abbrev S256 : Shape := ⟨1, ![256]⟩
abbrev S256x1 : Shape := ⟨2, ![256, 1]⟩
abbrev S2048x1024 : Shape := ⟨2, ![2048, 1024]⟩
abbrev S256x1024 : Shape := ⟨2, ![256, 1024]⟩

abbrev nBuf : Space → Nat
  | .hbm => 23
  | .vmem => 0
  | .smem => 0
  | _ => 0

abbrev bufTy : (tb : Table) → Fin (tcTables nBuf tb) → BufTy
  | .hbm, ⟨0, _⟩ => ⟨S1x256x2048, .f32⟩
  | .hbm, ⟨1, _⟩ => ⟨S1x2048, .f32⟩
  | .hbm, ⟨2, _⟩ => ⟨S1x2048x1024, .f32⟩
  | .hbm, ⟨3, _⟩ => ⟨S256x2048, .f32⟩
  | .hbm, ⟨4, _⟩ => ⟨S2048, .f32⟩
  | .hbm, ⟨5, _⟩ => ⟨S256x2048, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S256x2048, .f32⟩
  | .hbm, ⟨17, _⟩ => ⟨S256x2048, .f32⟩
  | .hbm, ⟨18, _⟩ => ⟨S1x2048, .f32⟩
  | .hbm, ⟨19, _⟩ => ⟨S256x2048, .f32⟩
  | .hbm, ⟨20, _⟩ => ⟨S256x2048, .f32⟩
  | .hbm, ⟨21, _⟩ => ⟨S2048x1024, .f32⟩
  | .hbm, ⟨22, _⟩ => ⟨S256x1024, .f32⟩
  | _, _ => ⟨S1x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Outproj.lean ====
abbrev S16384x2048 : Shape := ⟨2, ![16384, 2048]⟩
abbrev S1x16384x2048 : Shape := ⟨3, ![1, 16384, 2048]⟩
abbrev S1x2048x2048 : Shape := ⟨3, ![1, 2048, 2048]⟩
abbrev S2048 : Shape := ⟨1, ![2048]⟩
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S1x16384x2048, .f32⟩
  | .hbm, ⟨2, _⟩ => ⟨S1x2048x2048, .f32⟩
  | .hbm, ⟨3, _⟩ => ⟨S2048, .f32⟩
  | .hbm, ⟨4, _⟩ => ⟨S2048x2048, .f32⟩
  | .hbm, ⟨5, _⟩ => ⟨S2048x2048, .bf16⟩
  | .hbm, ⟨6, _⟩ => ⟨S16384x2048, .f32⟩
  | .hbm, ⟨7, _⟩ => ⟨S1x2048, .f32⟩
  | .hbm, ⟨8, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S2048x2048, .bf16⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutprojReferenceIdeal.lean ====
abbrev S16384x2048 : Shape := ⟨2, ![16384, 2048]⟩
abbrev S1x16384x2048 : Shape := ⟨3, ![1, 16384, 2048]⟩
abbrev S1x2048x2048 : Shape := ⟨3, ![1, 2048, 2048]⟩
abbrev S2048 : Shape := ⟨1, ![2048]⟩
abbrev S2048x2048 : Shape := ⟨2, ![2048, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 25
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x16384x2048, .f32⟩
  | .hbm, ⟨2, _⟩ => ⟨S1x2048x2048, .f32⟩
  | .hbm, ⟨3, _⟩ => ⟨S2048, .f32⟩
  | .hbm, ⟨4, _⟩ => ⟨S16384x2048, .f32⟩
  | .hbm, ⟨5, _⟩ => ⟨S16384x2048, .f32⟩
  | .hbm, ⟨6, _⟩ => ⟨S2048x2048, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x2048, .f32⟩
  | .hbm, ⟨21, _⟩ => ⟨S16384x2048, .f32⟩
  | .hbm, ⟨22, _⟩ => ⟨S1x2048, .f32⟩
  | .hbm, ⟨23, _⟩ => ⟨S16384x2048, .f32⟩
  | .hbm, ⟨24, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Mix.lean ====
abbrev S8 : Shape := ⟨1, ![8]⟩
abbrev S16384x5632 : Shape := ⟨2, ![16384, 5632]⟩
abbrev S16384x128 : Shape := ⟨2, ![16384, 128]⟩
abbrev S256x512 : Shape := ⟨2, ![256, 512]⟩
abbrev S128 : Shape := ⟨1, ![128]⟩
abbrev S_ : Shape := ⟨0, ![]⟩
abbrev S64 : Shape := ⟨1, ![64]⟩
abbrev S128x1 : Shape := ⟨2, ![128, 1]⟩
abbrev S1x64 : Shape := ⟨2, ![1, 64]⟩
abbrev S128x64 : Shape := ⟨2, ![128, 64]⟩
abbrev S128x128 : Shape := ⟨2, ![128, 128]⟩
abbrev S1x128x128 : Shape := ⟨3, ![1, 128, 128]⟩
abbrev S2x128x128 : Shape := ⟨3, ![2, 128, 128]⟩
abbrev S4x128x128 : Shape := ⟨3, ![4, 128, 128]⟩
abbrev S16384x2048 : Shape := ⟨2, ![16384, 2048]⟩
abbrev S128x256 : Shape := ⟨2, ![128, 256]⟩
abbrev S256x128 : Shape := ⟨2, ![256, 128]⟩
abbrev S1x256 : Shape := ⟨2, ![1, 256]⟩
abbrev S1x128 : Shape := ⟨2, ![1, 128]⟩
abbrev S128x5632 : Shape := ⟨2, ![128, 5632]⟩
abbrev S128x2048 : Shape := ⟨2, ![128, 2048]⟩
abbrev S1x1x128 : Shape := ⟨3, ![1, 1, 128]⟩
abbrev S512x256 : Shape := ⟨2, ![512, 256]⟩
abbrev S1 : Shape := ⟨1, ![1]⟩
abbrev S512x128 : Shape := ⟨2, ![512, 128]⟩
abbrev S512x1 : Shape := ⟨2, ![512, 1]⟩
abbrev S512 : Shape := ⟨1, ![512]⟩
abbrev S1x1 : Shape := ⟨2, ![1, 1]⟩
abbrev S64x128 : Shape := ⟨2, ![64, 128]⟩

abbrev nBuf : Space → Nat
  | .hbm => 70
  | .vmem => 17
  | .smem => 1
  | _ => 0

abbrev bufTy : (tb : Table) → Fin (tcTables nBuf tb) → BufTy
  | .hbm, ⟨0, _⟩ => ⟨S8, .f32⟩
  | .hbm, ⟨1, _⟩ => ⟨S16384x5632, .f32⟩
  | .hbm, ⟨2, _⟩ => ⟨S16384x128, .f32⟩
  | .hbm, ⟨3, _⟩ => ⟨S256x512, .bf16⟩
  | .hbm, ⟨4, _⟩ => ⟨S256x512, .bf16⟩
  | .hbm, ⟨5, _⟩ => ⟨S128, .i32⟩
  | .hbm, ⟨6, _⟩ => ⟨S_, .i32⟩
  | .hbm, ⟨7, _⟩ => ⟨S128, .i32⟩
  | .hbm, ⟨8, _⟩ => ⟨S128, .i32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S128, .f32⟩
  | .hbm, ⟨21, _⟩ => ⟨S128x1, .f32⟩
  | .hbm, ⟨22, _⟩ => ⟨S1x64, .f32⟩
  | .hbm, ⟨23, _⟩ => ⟨S128x64, .f32⟩
  | .hbm, ⟨24, _⟩ => ⟨S128x64, .f32⟩
  | .hbm, ⟨25, _⟩ => ⟨S128x64, .f32⟩
  | .hbm, ⟨26, _⟩ => ⟨S128x64, .f32⟩
  | .hbm, ⟨27, _⟩ => ⟨S128x64, .f32⟩
  | .hbm, ⟨28, _⟩ => ⟨S128, .i32⟩
  | .hbm, ⟨29, _⟩ => ⟨S64, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S_, .f32⟩
  | .hbm, ⟨34, _⟩ => ⟨S64, .f32⟩
  | .hbm, ⟨35, _⟩ => ⟨S64, .f32⟩
  | .hbm, ⟨36, _⟩ => ⟨S64, .f32⟩
  | .hbm, ⟨37, _⟩ => ⟨S_, .f32⟩
  | .hbm, ⟨38, _⟩ => ⟨S64, .f32⟩
  | .hbm, ⟨39, _⟩ => ⟨S64, .f32⟩
  | .hbm, ⟨40, _⟩ => ⟨S128, .f32⟩
  | .hbm, ⟨41, _⟩ => ⟨S128x1, .f32⟩
  | .hbm, ⟨42, _⟩ => ⟨S1x64, .f32⟩
  | .hbm, ⟨43, _⟩ => ⟨S128x64, .f32⟩
  | .hbm, ⟨44, _⟩ => ⟨S128x64, .f32⟩
  | .hbm, ⟨45, _⟩ => ⟨S128x64, .f32⟩
  | .hbm, ⟨46, _⟩ => ⟨S128x64, .f32⟩
  | .hbm, ⟨47, _⟩ => ⟨S128x64, .f32⟩
  | .hbm, ⟨48, _⟩ => ⟨S128x128, .f32⟩
  | .hbm, ⟨49, _⟩ => ⟨S128x128, .f32⟩
  | .hbm, ⟨50, _⟩ => ⟨S1x128x128, .f32⟩
  | .hbm, ⟨51, _⟩ => ⟨S1x128x128, .f32⟩
  | .hbm, ⟨52, _⟩ => ⟨S2x128x128, .f32⟩
  | .hbm, ⟨53, _⟩ => ⟨S128x128, .f32⟩
  | .hbm, ⟨54, _⟩ => ⟨S128x128, .f32⟩
  | .hbm, ⟨55, _⟩ => ⟨S128x64, .f32⟩
  | .hbm, ⟨56, _⟩ => ⟨S128x128, .f32⟩
  | .hbm, ⟨57, _⟩ => ⟨S128x64, .f32⟩
  | .hbm, ⟨58, _⟩ => ⟨S128x128, .f32⟩
  | .hbm, ⟨59, _⟩ => ⟨S1x128x128, .f32⟩
  | .hbm, ⟨60, _⟩ => ⟨S1x128x128, .f32⟩
  | .hbm, ⟨61, _⟩ => ⟨S1x128x128, .f32⟩
  | .hbm, ⟨62, _⟩ => ⟨S1x128x128, .f32⟩
  | .hbm, ⟨63, _⟩ => ⟨S4x128x128, .f32⟩
  | .hbm, ⟨64, _⟩ => ⟨S16384x2048, .bf16⟩
  | .hbm, ⟨65, _⟩ => ⟨S128x256, .f32⟩
  | .hbm, ⟨66, _⟩ => ⟨S128x256, .f32⟩
  | .hbm, ⟨67, _⟩ => ⟨S256x128, .f32⟩
  | .hbm, ⟨68, _⟩ => ⟨S1x256, .f32⟩
  | .hbm, ⟨69, _⟩ => ⟨S1x128, .f32⟩
  | .local _ .vmem, ⟨0, _⟩ => ⟨S128x5632, .f32⟩
  | .local _ .vmem, ⟨1, _⟩ => ⟨S128x5632, .f32⟩
  | .local _ .vmem, ⟨2, _⟩ => ⟨S128x128, .f32⟩
  | .local _ .vmem, ⟨3, _⟩ => ⟨S128x128, .f32⟩
  | .local _ .vmem, ⟨4, _⟩ => ⟨S2x128x128, .f32⟩
  | .local _ .vmem, ⟨5, _⟩ => ⟨S4x128x128, .f32⟩
  | .local _ .vmem, ⟨6, _⟩ => ⟨S256x512, .bf16⟩
  | .local _ .vmem, ⟨7, _⟩ => ⟨S256x512, .bf16⟩
  | .local _ .vmem, ⟨8, _⟩ => ⟨S128x2048, .bf16⟩
  | .local _ .vmem, ⟨9, _⟩ => ⟨S128x2048, .bf16⟩
  | .local _ .vmem, ⟨10, _⟩ => ⟨S128x256, .f32⟩
  | .local _ .vmem, ⟨11, _⟩ => ⟨S128x256, .f32⟩
  | .local _ .vmem, ⟨12, _⟩ => ⟨S256x128, .f32⟩
  | .local _ .vmem, ⟨13, _⟩ => ⟨S1x256, .f32⟩
  | .local _ .vmem, ⟨14, _⟩ => ⟨S1x128, .f32⟩
  | .local _ .vmem, ⟨15, _⟩ => ⟨S128x256, .bf16⟩
  | .local _ .vmem, ⟨16, _⟩ => ⟨S128x256, .bf16⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52_0 : Ref sig .tc := ⟨.hbm, 64, rfl⟩
abbrev main_v52_1 : Ref sig .tc := ⟨.hbm, 65, rfl⟩
abbrev main_v52_2 : Ref sig .tc := ⟨.hbm, 66, rfl⟩
abbrev main_v52_3 : Ref sig .tc := ⟨.hbm, 67, rfl⟩
abbrev main_v52_4 : Ref sig .tc := ⟨.hbm, 68, rfl⟩
abbrev main_v52_5 : Ref sig .tc := ⟨.hbm, 69, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_scratch0 : Ref sig .tc := ⟨.vmem, 15, rfl⟩
abbrev cc0_scratch1 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15

abbrev nD : Nat := 1
abbrev τ : Topo := Topo.v7x

variable {F : FTy → Type} [FloatOps F]

abbrev grid0 : Pipeline.Grid := ⟨1, ![128], ![false]⟩

def k0_off1 (i : grid0.Coords) : Fin 3 → Nat :=
  let c0 : Index := 0#32
  let arg0 : BitVec 32 := BitVec.ofNat 32 (i 0).val
  let v3 : Index := Scalar.indexCast arg0
  let c0_1 : Index := 0#32
  ![0, v3.toNat, 0]
def k0_off2 (i : grid0.Coords) : Fin 3 → Nat :=
  let c1 : Index := 1#32
  let arg0 : BitVec 32 := BitVec.ofNat 32 (i 0).val
  let v6 : Index := Scalar.indexCast arg0
  let c0_2 : Index := 0#32
  ![1, v6.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== MixReferenceIdeal.lean ====
abbrev S8 : Shape := ⟨1, ![8]⟩
abbrev S16384x5632 : Shape := ⟨2, ![16384, 5632]⟩
abbrev S16384x128 : Shape := ⟨2, ![16384, 128]⟩
abbrev S256x512 : Shape := ⟨2, ![256, 512]⟩
abbrev S16384x2560 : Shape := ⟨2, ![16384, 2560]⟩
abbrev S16384x1024 : Shape := ⟨2, ![16384, 1024]⟩
abbrev S16384x256 : Shape := ⟨2, ![16384, 256]⟩
abbrev S16384x512 : Shape := ⟨2, ![16384, 512]⟩
abbrev S16384x8x128 : Shape := ⟨3, ![16384, 8, 128]⟩
abbrev S64 : Shape := ⟨1, ![64]⟩
abbrev S_ : Shape := ⟨0, ![]⟩
abbrev S16384 : Shape := ⟨1, ![16384]⟩
abbrev S16384x1 : Shape := ⟨2, ![16384, 1]⟩
abbrev S1x64 : Shape := ⟨2, ![1, 64]⟩
abbrev S16384x64 : Shape := ⟨2, ![16384, 64]⟩
abbrev S16384x1x64 : Shape := ⟨3, ![16384, 1, 64]⟩
abbrev S16384x8x64 : Shape := ⟨3, ![16384, 8, 64]⟩
abbrev S16384x2x128 : Shape := ⟨3, ![16384, 2, 128]⟩
abbrev S16384x2x64 : Shape := ⟨3, ![16384, 2, 64]⟩
abbrev S128x128x2x4x128 : Shape := ⟨5, ![128, 128, 2, 4, 128]⟩
abbrev S128x2x128 : Shape := ⟨3, ![128, 2, 128]⟩
abbrev S16256x2x128 : Shape := ⟨3, ![16256, 2, 128]⟩
abbrev S128x128x2x128 : Shape := ⟨4, ![128, 128, 2, 128]⟩
abbrev S128x256x2x128 : Shape := ⟨4, ![128, 256, 2, 128]⟩
abbrev S128x2x256x128x4 : Shape := ⟨5, ![128, 2, 256, 128, 4]⟩
abbrev S128x2x4x128x256 : Shape := ⟨5, ![128, 2, 4, 128, 256]⟩
abbrev S128x128x256 : Shape := ⟨3, ![128, 128, 256]⟩
abbrev S128x1x1x128x256 : Shape := ⟨5, ![128, 1, 1, 128, 256]⟩
abbrev S2x4 : Shape := ⟨2, ![2, 4]⟩
abbrev S1x2x4x1x1 : Shape := ⟨5, ![1, 2, 4, 1, 1]⟩
abbrev S128x2x4x128 : Shape := ⟨4, ![128, 2, 4, 128]⟩
abbrev S128x2x4x128x1 : Shape := ⟨5, ![128, 2, 4, 128, 1]⟩
abbrev S128x2x128x4x128 : Shape := ⟨5, ![128, 2, 128, 4, 128]⟩
abbrev S16384x4x128 : Shape := ⟨3, ![16384, 4, 128]⟩
abbrev S256x4x128 : Shape := ⟨3, ![256, 4, 128]⟩
abbrev S4x16384x256 : Shape := ⟨3, ![4, 16384, 256]⟩
abbrev S4x16384 : Shape := ⟨2, ![4, 16384]⟩
abbrev S4x16384x1 : Shape := ⟨3, ![4, 16384, 1]⟩
abbrev S4x128x16384 : Shape := ⟨3, ![4, 128, 16384]⟩
abbrev S16384x2048 : Shape := ⟨2, ![16384, 2048]⟩
abbrev S128x256 : Shape := ⟨2, ![128, 256]⟩

abbrev nBuf : Space → Nat
  | .hbm => 209
  | .vmem => 0
  | .smem => 0
  | _ => 0

abbrev hbmTy0_0 (i : Nat) : BufTy := match i % 128 with
  | 0 => ⟨S8, .f32⟩
  | 1 => ⟨S16384x5632, .f32⟩
  | 2 => ⟨S16384x128, .f32⟩
  | 3 => ⟨S256x512, .bf16⟩
  | 4 => ⟨S256x512, .bf16⟩
  | 5 => ⟨S16384x2560, .f32⟩
  | 6 => ⟨S16384x1024, .f32⟩
  | 7 => ⟨S16384x256, .f32⟩
  | 8 => ⟨S16384x256, .f32⟩
  | 9 => ⟨S16384x1024, .f32⟩
  | 10 => ⟨S16384x512, .f32⟩
  | 11 => ⟨S16384x512, .f32⟩
  | 12 => ⟨S16384x8x128, .f32⟩
  | 13 => ⟨S64, .f32⟩
  | 14 => ⟨S_, .f32⟩
  | 15 => ⟨S64, .f32⟩
  | 16 => ⟨S64, .f32⟩
  | 17 => ⟨S_, .f32⟩
  | 18 => ⟨S64, .f32⟩
  | 19 => ⟨S64, .f32⟩
  | 20 => ⟨S64, .f32⟩
  | 21 => ⟨S_, .f32⟩
  | 22 => ⟨S64, .f32⟩
  | 23 => ⟨S64, .f32⟩
  | 24 => ⟨S16384, .i32⟩
  | 25 => ⟨S16384, .f32⟩
  | 26 => ⟨S16384x1, .f32⟩
  | 27 => ⟨S1x64, .f32⟩
  | 28 => ⟨S16384x64, .f32⟩
  | 29 => ⟨S16384x64, .f32⟩
  | 30 => ⟨S16384x64, .f32⟩
  | 31 => ⟨S16384x64, .f32⟩
  | 32 => ⟨S16384x1x64, .f32⟩
  | 33 => ⟨S16384x64, .f32⟩
  | 34 => ⟨S16384x1x64, .f32⟩
  | 35 => ⟨S16384x8x64, .f32⟩
  | 36 => ⟨S16384x8x64, .f32⟩
  | 37 => ⟨S16384x8x64, .f32⟩
  | 38 => ⟨S16384x8x64, .f32⟩
  | 39 => ⟨S16384x8x64, .f32⟩
  | 40 => ⟨S16384x8x64, .f32⟩
  | 41 => ⟨S16384x8x64, .f32⟩
  | 42 => ⟨S16384x8x64, .f32⟩
  | 43 => ⟨S16384x8x64, .f32⟩
  | 44 => ⟨S16384x8x64, .f32⟩
  | 45 => ⟨S16384x8x64, .f32⟩
  | 46 => ⟨S16384x8x64, .f32⟩
  | 47 => ⟨S16384x8x128, .f32⟩
  | 48 => ⟨S16384x2x128, .f32⟩
  | 49 => ⟨S64, .f32⟩
  | 50 => ⟨S_, .f32⟩
  | 51 => ⟨S64, .f32⟩
  | 52 => ⟨S64, .f32⟩
  | 53 => ⟨S_, .f32⟩
  | 54 => ⟨S64, .f32⟩
  | 55 => ⟨S64, .f32⟩
  | 56 => ⟨S64, .f32⟩
  | 57 => ⟨S_, .f32⟩
  | 58 => ⟨S64, .f32⟩
  | 59 => ⟨S64, .f32⟩
  | 60 => ⟨S16384, .i32⟩
  | 61 => ⟨S16384, .f32⟩
  | 62 => ⟨S16384x1, .f32⟩
  | 63 => ⟨S1x64, .f32⟩
  | 64 => ⟨S16384x64, .f32⟩
  | 65 => ⟨S16384x64, .f32⟩
  | 66 => ⟨S16384x64, .f32⟩
  | 67 => ⟨S16384x64, .f32⟩
  | 68 => ⟨S16384x1x64, .f32⟩
  | 69 => ⟨S16384x64, .f32⟩
  | 70 => ⟨S16384x1x64, .f32⟩
  | 71 => ⟨S16384x2x64, .f32⟩
  | 72 => ⟨S16384x2x64, .f32⟩
  | 73 => ⟨S16384x2x64, .f32⟩
  | 74 => ⟨S16384x2x64, .f32⟩
  | 75 => ⟨S16384x2x64, .f32⟩
  | 76 => ⟨S16384x2x64, .f32⟩
  | 77 => ⟨S16384x2x64, .f32⟩
  | 78 => ⟨S16384x2x64, .f32⟩
  | 79 => ⟨S16384x2x64, .f32⟩
  | 80 => ⟨S16384x2x64, .f32⟩
  | 81 => ⟨S16384x2x64, .f32⟩
  | 82 => ⟨S16384x2x64, .f32⟩
  | 83 => ⟨S16384x2x128, .f32⟩
  | 84 => ⟨S16384x2x128, .f32⟩
  | 85 => ⟨S128x128x2x4x128, .f32⟩
  | 86 => ⟨S_, .f32⟩
  | 87 => ⟨S128x2x128, .f32⟩
  | 88 => ⟨S16256x2x128, .f32⟩
  | 89 => ⟨S16384x2x128, .f32⟩
  | 90 => ⟨S128x128x2x128, .f32⟩
  | 91 => ⟨S128x128x2x128, .f32⟩
  | 92 => ⟨S128x256x2x128, .f32⟩
  | 93 => ⟨S_, .f32⟩
  | 94 => ⟨S128x2x128, .f32⟩
  | 95 => ⟨S16256x2x128, .f32⟩
  | 96 => ⟨S16384x2x128, .f32⟩
  | 97 => ⟨S128x128x2x128, .f32⟩
  | 98 => ⟨S128x128x2x128, .f32⟩
  | 99 => ⟨S128x256x2x128, .f32⟩
  | 100 => ⟨S128x2x256x128x4, .f32⟩
  | 101 => ⟨S128x2x4x128x256, .f32⟩
  | 102 => ⟨S_, .f32⟩
  | 103 => ⟨S128x2x4x128x256, .f32⟩
  | 104 => ⟨S128x2x4x128x256, .f32⟩
  | 105 => ⟨S128x128x256, .i32⟩
  | 106 => ⟨S128x128x256, .i32⟩
  | 107 => ⟨S128x128x256, .i32⟩
  | 108 => ⟨S_, .i32⟩
  | 109 => ⟨S128x128x256, .i32⟩
  | 110 => ⟨S128x128x256, .i32⟩
  | 111 => ⟨S128x128x256, .i32⟩
  | 112 => ⟨S_, .i32⟩
  | 113 => ⟨S128x128x256, .i32⟩
  | 114 => ⟨S128x128x256, .i1⟩
  | 115 => ⟨S_, .i32⟩
  | 116 => ⟨S128x128x256, .i32⟩
  | 117 => ⟨S128x128x256, .i1⟩
  | 118 => ⟨S128x128x256, .i1⟩
  | 119 => ⟨S_, .i32⟩
  | 120 => ⟨S128x128x256, .i32⟩
  | 121 => ⟨S128x128x256, .i32⟩
  | 122 => ⟨S_, .i32⟩
  | 123 => ⟨S128x128x256, .i32⟩
  | 124 => ⟨S128x128x256, .i32⟩
  | 125 => ⟨S128x128x256, .i32⟩
  | 126 => ⟨S_, .i32⟩
  | 127 => ⟨S128x128x256, .i32⟩
  | _ => ⟨S8, .f32⟩

abbrev hbmTy0_1 (i : Nat) : BufTy := match i % 128 with
  | 0 => ⟨S128x128x256, .i1⟩
  | 1 => ⟨S128x128x256, .i1⟩
  | 2 => ⟨S128x1x1x128x256, .i1⟩
  | 3 => ⟨S_, .f32⟩
  | 4 => ⟨S_, .f32⟩
  | 5 => ⟨S128x2x4x128x256, .i1⟩
  | 6 => ⟨S128x2x4x128x256, .f32⟩
  | 7 => ⟨S128x2x4x128x256, .f32⟩
  | 8 => ⟨S2x4, .f32⟩
  | 9 => ⟨S1x2x4x1x1, .f32⟩
  | 10 => ⟨S_, .f32⟩
  | 11 => ⟨S128x2x4x128, .f32⟩
  | 12 => ⟨S128x2x4x128x1, .f32⟩
  | 13 => ⟨S128x2x4x128x1, .f32⟩
  | 14 => ⟨S128x2x4x128x1, .f32⟩
  | 15 => ⟨S128x2x4x128x256, .f32⟩
  | 16 => ⟨S128x2x4x128x256, .f32⟩
  | 17 => ⟨S128x2x4x128x256, .f32⟩
  | 18 => ⟨S_, .f32⟩
  | 19 => ⟨S128x2x4x128, .f32⟩
  | 20 => ⟨S128x2x4x128x1, .f32⟩
  | 21 => ⟨S128x2x4x128x1, .f32⟩
  | 22 => ⟨S128x2x4x128x1, .f32⟩
  | 23 => ⟨S128x2x4x128x1, .f32⟩
  | 24 => ⟨S128x2x4x128x1, .f32⟩
  | 25 => ⟨S128x2x4x128x256, .f32⟩
  | 26 => ⟨S128x2x4x128x256, .f32⟩
  | 27 => ⟨S128x2x128x4x128, .f32⟩
  | 28 => ⟨S128x128x2x4x128, .f32⟩
  | 29 => ⟨S16384x1024, .f32⟩
  | 30 => ⟨S16384x1024, .f32⟩
  | 31 => ⟨S16384x1024, .f32⟩
  | 32 => ⟨S_, .f32⟩
  | 33 => ⟨S16384x1024, .f32⟩
  | 34 => ⟨S16384x1024, .f32⟩
  | 35 => ⟨S_, .f32⟩
  | 36 => ⟨S16384x1024, .f32⟩
  | 37 => ⟨S16384x1024, .f32⟩
  | 38 => ⟨S16384x1024, .f32⟩
  | 39 => ⟨S16384x1024, .f32⟩
  | 40 => ⟨S256x512, .f32⟩
  | 41 => ⟨S256x512, .f32⟩
  | 42 => ⟨S16384x4x128, .f32⟩
  | 43 => ⟨S256x4x128, .f32⟩
  | 44 => ⟨S256x4x128, .f32⟩
  | 45 => ⟨S4x16384x256, .f32⟩
  | 46 => ⟨S_, .f32⟩
  | 47 => ⟨S4x16384x256, .f32⟩
  | 48 => ⟨S4x16384x256, .f32⟩
  | 49 => ⟨S_, .f32⟩
  | 50 => ⟨S4x16384, .f32⟩
  | 51 => ⟨S4x16384x1, .f32⟩
  | 52 => ⟨S4x16384x256, .f32⟩
  | 53 => ⟨S4x16384x256, .f32⟩
  | 54 => ⟨S4x16384x256, .f32⟩
  | 55 => ⟨S_, .f32⟩
  | 56 => ⟨S4x16384, .f32⟩
  | 57 => ⟨S4x16384x1, .f32⟩
  | 58 => ⟨S4x16384x256, .f32⟩
  | 59 => ⟨S4x16384x256, .f32⟩
  | 60 => ⟨S4x128x16384, .f32⟩
  | 61 => ⟨S16384x4x128, .f32⟩
  | 62 => ⟨S16384x512, .f32⟩
  | 63 => ⟨S16384x512, .f32⟩
  | 64 => ⟨S16384x512, .f32⟩
  | 65 => ⟨S_, .f32⟩
  | 66 => ⟨S16384x512, .f32⟩
  | 67 => ⟨S16384x512, .f32⟩
  | 68 => ⟨S_, .f32⟩
  | 69 => ⟨S16384x512, .f32⟩
  | 70 => ⟨S16384x512, .f32⟩
  | 71 => ⟨S16384x512, .f32⟩
  | 72 => ⟨S16384x512, .f32⟩
  | 73 => ⟨S_, .f32⟩
  | 74 => ⟨S16384x512, .f32⟩
  | 75 => ⟨S16384x2048, .f32⟩
  | 76 => ⟨S16384x2048, .bf16⟩
  | 77 => ⟨S128x2x128, .f32⟩
  | 78 => ⟨S128x256, .f32⟩
  | 79 => ⟨S128x2x128, .f32⟩
  | 80 => ⟨S128x256, .f32⟩
  | _ => ⟨S8, .f32⟩

abbrev hbmTy (i : Nat) : BufTy := match i / 128 with
  | 0 => hbmTy0_0 i
  | 1 => hbmTy0_1 i
  | _ => ⟨S8, .f32⟩

abbrev bufTy : (tb : Table) → Fin (tcTables nBuf tb) → BufTy
  | .hbm, ⟨i, _⟩ => hbmTy i
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_2 : Ref sig .tc := ⟨.hbm, 50, rfl⟩
abbrev main_v42 : Ref sig .tc := ⟨.hbm, 51, rfl⟩
abbrev main_v43 : Ref sig .tc := ⟨.hbm, 52, rfl⟩
abbrev main_cst_3 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_4 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_cst_5 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_cst_6 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_cst_7 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_c : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_c_8 : Ref sig .tc := ⟨.hbm, 112, rfl⟩
abbrev main_v97 : Ref sig .tc := ⟨.hbm, 113, rfl⟩
abbrev main_v98 : Ref sig .tc := ⟨.hbm, 114, rfl⟩
abbrev main_c_9 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_c_10 : Ref sig .tc := ⟨.hbm, 119, rfl⟩
abbrev main_v102 : Ref sig .tc := ⟨.hbm, 120, rfl⟩
abbrev main_v103 : Ref sig .tc := ⟨.hbm, 121, rfl⟩
abbrev main_c_11 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_c_12 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_cst_13 : Ref sig .tc := ⟨.hbm, 131, rfl⟩
abbrev main_call0_v0 : Ref sig .tc := ⟨.hbm, 132, rfl⟩
abbrev main_call0_v1 : Ref sig .tc := ⟨.hbm, 133, rfl⟩
abbrev main_call0_v2 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_cst_14 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_cst_15 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_cst_16 : Ref sig .tc := ⟨.hbm, 160, rfl⟩
abbrev main_v134 : Ref sig .tc := ⟨.hbm, 161, rfl⟩
abbrev main_v135 : Ref sig .tc := ⟨.hbm, 162, rfl⟩
abbrev main_cst_17 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_cst_18 : Ref sig .tc := ⟨.hbm, 174, rfl⟩
abbrev main_v146 : Ref sig .tc := ⟨.hbm, 175, rfl⟩
abbrev main_v147 : Ref sig .tc := ⟨.hbm, 176, rfl⟩
abbrev main_cst_19 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_cst_20 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_cst_21 : Ref sig .tc := ⟨.hbm, 193, rfl⟩
abbrev main_v162 : Ref sig .tc := ⟨.hbm, 194, rfl⟩
abbrev main_v163 : Ref sig .tc := ⟨.hbm, 195, rfl⟩
abbrev main_cst_22 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_cst_23 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩

abbrev nD : Nat := 1
abbrev τ : Topo := Topo.v7x

variable {F : FTy → Type} [FloatOps F]
-- ==== Proof.MixCore.lean ====
module

public import proofs.«01_k».proof.Proof.Gen.MixIdeal.Skeleton
public import Idealize.ShloMosaic.Lib.Pipeline.ValueKit
public import Idealize.ShloMosaic.Lib.Pointwise
public import Idealize.ShloMosaic.Lib.Claim

@[expose] public section

set_option maxRecDepth 16384

/-! Attention of one query: the weighted sum divided once at its end is the sum with each weight divided. -/

noncomputable section
open Idealize.ShloMosaic Idealize.ShloMosaic.TcCoe Idealize.SL.Sem

namespace Cert.Attend

/-- Neither infinity. -/
def Finite (x : EReal) : Prop := x ≠ ⊤ ∧ x ≠ ⊥

theorem Finite.coe (r : ℝ) : Finite (r : EReal) := ⟨EReal.coe_ne_top r, EReal.coe_ne_bot r⟩

theorem Finite.exists {x : EReal} (h : Finite x) : ∃ r : ℝ, x = r := ⟨x.toReal, (EReal.coe_toReal h.1 h.2).symm⟩

theorem Finite.mul {x y : EReal} (hx : Finite x) (hy : Finite y) : Finite (x * y) := by
  obtain ⟨a, rfl⟩ := hx.exists
  obtain ⟨b, rfl⟩ := hy.exists
  rw [← EReal.coe_mul]
  exact Finite.coe _

theorem Finite.add {x y : EReal} (hx : Finite x) (hy : Finite y) : Finite (x + y) := by
  obtain ⟨a, rfl⟩ := hx.exists
  obtain ⟨b, rfl⟩ := hy.exists
  rw [← EReal.coe_add]
  exact Finite.coe _

theorem Finite.sub {x y : EReal} (hx : Finite x) (hy : Finite y) : Finite (x - y) := by
  obtain ⟨a, rfl⟩ := hx.exists
  obtain ⟨b, rfl⟩ := hy.exists
  rw [← EReal.coe_sub]
  exact Finite.coe _

theorem Finite.sum {n : ℕ} {f : Fin n → EReal} (h : ∀ k, Finite (f k)) : Finite (∑ k, f k) :=
  Finset.sum_induction f Finite (fun _ _ => Finite.add) (Finite.coe 0) fun k _ => h k

/-- The largest of the scores. -/
def top {n : ℕ} (s : Fin n → EReal) : EReal := Finset.univ.fold max (Ideal.ofBits .f32 0xFF800000#32) s

theorem neg_inf : Ideal.ofBits .f32 0xFF800000#32 = ⊥ := by
  simp [Ideal.ofBits, Ideal.ieee]

theorem top_ne_top {n : ℕ} {s : Fin n → EReal} (h : ∀ k, s k ≠ ⊤) : top s ≠ ⊤ := by
  unfold top
  rw [neg_inf]
  refine ne_of_lt ((Finset.fold_max_lt _).2 ⟨bot_lt_top, fun k _ => lt_top_iff_ne_top.2 (h k)⟩)

theorem le_top' {n : ℕ} (s : Fin n → EReal) (k : Fin n) : s k ≤ top s :=
  (Finset.le_fold_max _).2 (Or.inr ⟨k, Finset.mem_univ k, le_rfl⟩)

theorem exp_nonneg (x : EReal) : 0 ≤ Ideal.exp x := by
  induction x using EReal.rec with
  | bot => exact le_rfl
  | top => exact le_top
  | coe r => exact EReal.coe_nonneg.2 (Real.exp_pos r).le

theorem exp_ne_top {x : EReal} (h : x ≠ ⊤) : Ideal.exp x ≠ ⊤ := by
  induction x using EReal.rec with
  | bot => exact EReal.zero_ne_top
  | top => exact absurd rfl h
  | coe r => exact EReal.coe_ne_top _

theorem exp_pos {x : EReal} (h : Finite x) : 0 < Ideal.exp x := by
  obtain ⟨r, rfl⟩ := h.exists
  exact EReal.coe_pos.2 (Real.exp_pos r)

theorem sum_ne_top {n : ℕ} {f : Fin n → EReal} (h : ∀ k, f k ≠ ⊤) : ∑ k, f k ≠ ⊤ :=
  Finset.sum_induction f (· ≠ ⊤) (fun _ _ => EReal.add_ne_top) EReal.zero_ne_top fun k _ => h k

/-- A sum times a number that is neither negative nor infinite. -/
theorem sum_mul {n : ℕ} (f : Fin n → EReal) {x : EReal} (h0 : 0 ≤ x) (ht : x ≠ ⊤) : (∑ k, f k) * x = ∑ k, f k * x := by
  classical
  refine Finset.induction_on (Finset.univ : Finset (Fin n)) (by simp) fun a s ha ih => ?_
  rw [Finset.sum_insert ha, Finset.sum_insert ha, EReal.right_distrib_of_nonneg_of_ne_top h0 ht, ih]

/-- Dividing the weighted sum is dividing each weight. -/
theorem divided {n : ℕ} (p v : Fin n → EReal) {l : EReal} (h0 : 0 < l) (ht : l ≠ ⊤) :
    (∑ j, p j * v j) * Ideal.div 1 l = ∑ j, v j * Ideal.div (p j) l := by
  have hl : l ≠ 0 := h0.ne'
  obtain ⟨r, rfl⟩ := Finite.exists ⟨ht, (lt_of_le_of_lt bot_le h0).ne'⟩
  simp only [Ideal.div, if_neg hl, one_mul]
  rw [← EReal.coe_inv, sum_mul _ (EReal.coe_nonneg.2 (inv_nonneg.2 (EReal.coe_nonneg.1 h0.le))) (EReal.coe_ne_top _)]
  refine Finset.sum_congr rfl fun j _ => ?_
  rw [mul_right_comm, mul_comm]

/-- The gate. -/
def gate (g : EReal) : EReal := g * Ideal.div 1 (1 + Ideal.exp (0 - g))

/-- A query's result: the weighted sum of the values over the sum of the weights, gated. -/
def out {n : ℕ} (s v : Fin n → EReal) (g : EReal) : EReal :=
  (∑ j, Ideal.exp (s j - top s) * v j) * Ideal.div 1 (∑ j, Ideal.exp (s j - top s)) * gate g

theorem out_congr {n : ℕ} {s s' v v' : Fin n → EReal} {g g' : EReal} (hs : ∀ j, s j = s' j) (hv : ∀ j, v j = v' j)
    (hg : g = g') : out s v g = out s' v' g' := by
  rw [funext hs, funext hv, hg]

/-- The same with each weight divided. -/
theorem out_eq {n : ℕ} (s v : Fin (n + 1) → EReal) (g : EReal) (hs : ∀ j, Finite (s j)) :
    out s v g = (∑ j, v j * Ideal.div (Ideal.exp (s j - top s)) (∑ k, Ideal.exp (s k - top s))) * gate g := by
  have ht : Finite (top s) :=
    ⟨top_ne_top fun k => (hs k).1, (lt_of_lt_of_le (bot_lt_iff_ne_bot.2 (hs 0).2) (le_top' s 0)).ne'⟩
  have h0 : 0 < ∑ k, Ideal.exp (s k - top s) :=
    lt_of_lt_of_le (exp_pos ((hs 0).sub ht)) (Finset.single_le_sum (f := fun k => Ideal.exp (s k - top s)) (fun k _ => exp_nonneg _) (Finset.mem_univ 0))
  unfold out
  rw [divided _ _ h0 (sum_ne_top fun k => exp_ne_top ((hs k).sub ht).1)]

end Cert.Attend

namespace Cert.MixIdeal.Whole
open Cert.MixIdeal Cert.MixIdeal.Gen

theorem pay59 (q g : Vec Ideal S128x128 .f32) (k v : Vec Ideal S256x128 .bf16) :
    k0_pay59 (F := Ideal) (k0_pay57 q k) (k0_pay58 q k) v g = k0_pay56 (k0_pay55 q) k v g := rfl

theorem pay63 (q g : Vec Ideal S128x128 .f32) (k v : Vec Ideal S256x128 .bf16) :
    k0_pay63 (F := Ideal) (k0_pay61 q k) (k0_pay62 q k) v g = k0_pay56 (k0_pay55 q) k v g := rfl

theorem pay67 (q g : Vec Ideal S128x128 .f32) (k v : Vec Ideal S256x128 .bf16) :
    k0_pay67 (F := Ideal) (k0_pay65 q k v) (k0_pay66 q k) g = k0_pay56 (k0_pay55 q) k v g := rfl

/-- One head's store into the memory's columns, at a row and a column. -/
theorem pay56 (q g : Vec Ideal S128x128 .f32) (k v : Vec Ideal S256x128 .bf16) (x : S128x128.Idx) :
    k0_pay56 (F := Ideal) (k0_pay55 q) k v g x
      = Attend.out (fun j : Fin 256 => (∑ a : Fin 128, q (ix2 (x 0) a) * k (ix2 j a)) * Ideal.ofBits .f32 0x3DB504F3#32)
          (fun j => v (ix2 j (x 1))) (g x) := by
  idx_vars x
  pointwise [k0_pay55, k0_pay56, Attend.out, Attend.gate, Attend.top]

end Cert.MixIdeal.Whole
end
-- ==== Proof.MixValue.lean ====
module

public import proofs.«01_k».proof.Proof.MixCore
public import proofs.«01_k».proof.Proof.Gen.MixIdeal.Frame

@[expose] public section

set_option maxRecDepth 16384

/-! The mixers of the prompt: the columns of the attention into the memory and the last window's values. -/

noncomputable section
open Idealize.ShloMosaic Idealize.ShloMosaic.TcCoe Idealize.SL.Sem
open Idealize.ShloMosaic.Pipeline (Dat)
namespace Cert.MixIdeal.Whole
open Cert.MixIdeal Cert.MixIdeal.Gen

/-- The attention into the memory of row `r`, at lane `n` of its 512: head `n / 128`. -/
def mem (z : FVec Ideal S16384x5632 .f32) (mk mv : FVec Ideal S256x512 .bf16) (r : Fin 16384) (n : Fin 512) : EReal :=
  Attend.out (fun j : Fin 256 => (∑ a : Fin 128, z (ix2 r ⟨4608 + (n / 128 * 128 + a), by omega⟩)
      * mk (ix2 j ⟨n / 128 * 128 + a, by omega⟩)) * Ideal.ofBits .f32 0x3DB504F3#32)
    (fun j => mv (ix2 j n)) (z (ix2 r ⟨5120 + n, by omega⟩))

/-- The blocks of the windows. -/
theorem idx : ∀ t : Fin cfg0.N, win0_1.index t = ![t.val, 0] ∧ win0_5.index t = ![0, 0] ∧ win0_6.index t = ![0, 0]
    ∧ win0_7.index t = ![t.val, 0] ∧ win0_8.index t = ![0, 0] ∧ win0_9.index t = ![0, 0] :=
  (by decide +kernel : ∀ t : Fin grid0.N, win0_1.index t = ![t.val, 0] ∧ win0_5.index t = ![0, 0] ∧ win0_6.index t = ![0, 0]
    ∧ win0_7.index t = ![t.val, 0] ∧ win0_8.index t = ![0, 0] ∧ win0_9.index t = ![0, 0])

variable (m : (ℓ : Loc nD τ sig) → Buf (Elt Ideal) ℓ)

/-- The columns' block at point `t` is rows `128 t` to `128 t + 127` of the columns. -/
theorem z_at (c : Dev nD) (t : Fin cfg0.N) (a : Fin 128) (b : Fin 5632) (r : Fin 16384) (hr : (r : ℕ) = t * 128 + a) :
    (show FVec Ideal S128x5632 .f32 from iblk m c 1 t) (ix2 a b) = m ((c : Thread nD τ).loc main_arg1) (ix2 r b) := by
  blk_point [iblk, idx t]

/-- The memory's keys are staged whole. -/
theorem mk_at (c : Dev nD) (t : Fin cfg0.N) (a : Fin 256) (b : Fin 512) :
    (show FVec Ideal S256x512 .bf16 from iblk m c 5 t) (ix2 a b) = m ((c : Thread nD τ).loc main_arg3) (ix2 a b) := by
  blk_point [iblk, idx t]

/-- And its values. -/
theorem mv_at (c : Dev nD) (t : Fin cfg0.N) (a : Fin 256) (b : Fin 512) :
    (show FVec Ideal S256x512 .bf16 from iblk m c 6 t) (ix2 a b) = m ((c : Thread nD τ).loc main_arg4) (ix2 a b) := by
  blk_point [iblk, idx t]

/-- One head's store, from where its operands were loaded. -/
theorem head_at (c : Dev nD) (t : Fin cfg0.N) (x : S128x128.Idx) (n : Fin 512) (r : Fin 16384) (hr : (r : ℕ) = t * 128 + x 0)
    (oq ok og : ℕ) (hoq : oq + 128 ≤ 5632) (hok : ok + 128 ≤ 512) (hog : og + 128 ≤ 5632)
    (q g : Vec Ideal S128x128 .f32) (k v : Vec Ideal S256x128 .bf16)
    (hq : ∀ a b : Fin 128, q (ix2 a b) = (show FVec Ideal S128x5632 .f32 from iblk m c 1 t) (ix2 a ⟨oq + b, by omega⟩))
    (hk : ∀ (a : Fin 256) (b : Fin 128), k (ix2 a b) = (show FVec Ideal S256x512 .bf16 from iblk m c 5 t) (ix2 a ⟨ok + b, by omega⟩))
    (hv : ∀ (a : Fin 256) (b : Fin 128), v (ix2 a b) = (show FVec Ideal S256x512 .bf16 from iblk m c 6 t) (ix2 a ⟨ok + b, by omega⟩))
    (hg : ∀ a b : Fin 128, g (ix2 a b) = (show FVec Ideal S128x5632 .f32 from iblk m c 1 t) (ix2 a ⟨og + b, by omega⟩))
    (hn : (n : ℕ) = ok + x 1) (eq : oq = 4608 + ok) (eg : og = 5120 + ok) (ek : ok % 128 = 0) :
    k0_pay56 (F := Ideal) (k0_pay55 q) k v g x
      = mem (m ((c : Thread nD τ).loc main_arg1)) (m ((c : Thread nD τ).loc main_arg3)) (m ((c : Thread nD τ).loc main_arg4)) r n := by
  rw [pay56]
  idx_vars x
  have hx1 : (x1 : ℕ) < 128 := x1.isLt
  have hn' : (n : ℕ) = ok + x1 := hn
  have hx : (n : ℕ) / 128 * 128 = ok := by omega
  unfold mem
  refine Attend.out_congr (fun j => congrArg (· * _) (Finset.sum_congr rfl fun a _ => congrArg₂ (· * ·) ?_ ?_)) (fun j => ?_) ?_
  · exact (hq _ _).trans ((z_at m c t _ _ r hr).trans (congrArg _ (by idx_ext <;> omega)))
  · exact (hk _ _).trans ((mk_at m c t _ _).trans (congrArg _ (by idx_ext <;> omega)))
  · exact (hv _ _).trans ((mv_at m c t _ _).trans (congrArg _ (by idx_ext <;> omega)))
  · exact (hg _ _).trans ((z_at m c t _ _ r hr).trans (congrArg _ (by idx_ext <;> omega)))

/-- What point `t` stores at a row and one of the memory's columns. -/
theorem point (c : Dev nD) (t : Fin cfg0.N) (y : S128x2048.Idx) (n : Fin 512) (hn : (y 1 : ℕ) = 1536 + n) (r : Fin 16384)
    (hr : (r : ℕ) = t * 128 + y 0) :
    (outsAt0 m c t.val t.isLt).1 y
      = mem (m ((c : Thread nD τ).loc main_arg1)) (m ((c : Thread nD τ).loc main_arg3)) (m ((c : Thread nD τ).loc main_arg4)) r n := by
  by_cases h0 : t.val % 128 = 0
  case' pos => rw [outsAt0_A m c t h0]; frame_out; canon_tiles x h
  case' neg => rw [outsAt0_B m c t h0]; frame_out; canon_tiles x h
  all_goals first
    | (exfalso; omega)
    | (rw [pay67]; refine head_at m c t x n r ?_ 4992 384 5504 ?_ ?_ ?_ _ _ _ _ (fun a b => ?_) (fun a b => ?_) (fun a b => ?_) (fun a b => ?_) ?_ ?_ ?_ ?_)
    | (rw [pay63]; refine head_at m c t x n r ?_ 4864 256 5376 ?_ ?_ ?_ _ _ _ _ (fun a b => ?_) (fun a b => ?_) (fun a b => ?_) (fun a b => ?_) ?_ ?_ ?_ ?_)
    | (rw [pay59]; refine head_at m c t x n r ?_ 4736 128 5248 ?_ ?_ ?_ _ _ _ _ (fun a b => ?_) (fun a b => ?_) (fun a b => ?_) (fun a b => ?_) ?_ ?_ ?_ ?_)
    | refine head_at m c t x n r ?_ 4608 0 5120 ?_ ?_ ?_ _ _ _ _ (fun a b => ?_) (fun a b => ?_) (fun a b => ?_) (fun a b => ?_) ?_ ?_ ?_ ?_
  all_goals first
    | omega
    | pointwise

/-- The result array after the run, at the memory's columns. -/
theorem final (c : Dev nD) (r : Fin 16384) (l : Fin 2048) (n : Fin 512) (hn : (l : ℕ) = 1536 + n) :
    (dats m 0 c).arrAt 7 (cfgs 0).N (ix2 r l)
      = mem (m ((c : Thread nD τ).loc main_arg1)) (m ((c : Thread nD τ).loc main_arg3)) (m ((c : Thread nD τ).loc main_arg4)) r n := by
  refine ((dats m 0 c).arrAt_forall_of_covers 7 (fun i v => ∀ (r : Fin 16384) (n : Fin 512), (i 0 : ℕ) = r → (i 1 : ℕ) = 1536 + n →
    v = mem (m ((c : Thread nD τ).loc main_arg1)) (m ((c : Thread nD τ).loc main_arg3)) (m ((c : Thread nD τ).loc main_arg4)) r n)
    (by decide +kernel) (fun t hf y r n hr hn => ?_) (ix2 r l)) r n rfl hn
  blk_simp [idx t] at hr hn
  blk_simp
  rw [after0_7]
  exact point m c t _ n (by omega) r (by omega)

/-- The values of the last window after the run. -/
theorem final_v (c : Dev nD) (a : Fin 128) (b : Fin 256) :
    (dats m 0 c).arrAt 9 (cfgs 0).N (ix2 a b)
      = m ((c : Thread nD τ).loc main_arg1) (ix2 ⟨16256 + a, by omega⟩ ⟨1280 + b, by omega⟩) := by
  refine ((dats m 0 c).arrAt_forall_of_covers 9 (fun i v => ∀ (a : Fin 128) (b : Fin 256), (i 0 : ℕ) = a → (i 1 : ℕ) = b →
    v = m ((c : Thread nD τ).loc main_arg1) (ix2 ⟨16256 + a, by omega⟩ ⟨1280 + b, by omega⟩))
    (by decide +kernel) (fun t hf y a b ha hb => ?_) (ix2 a b)) a b rfl rfl
  have ht := (flush0_9 t).mp hf
  blk_simp [idx t] at ha hb
  blk_simp
  rw [after0_9, outsAt0_B m c t (by omega)]
  frame_out
  have hN : t.val < 128 := lt_of_lt_of_eq t.isLt N_0
  canon_tiles x h
  all_goals (pointwise; blk_point [iblk, idx t])

end Cert.MixIdeal.Whole
end
-- ==== Proof.MixTerm.lean ====
module

public import proofs.«01_k».proof.Proof.MixValue
public import proofs.«01_k».proof.Proof.Gen.MixReferenceIdeal.Run
public import Idealize.ShloMosaic.Lib.Pointwise

@[expose] public section

set_option maxRecDepth 16384

/-! The reference of the mixers, read at an index of the memory's columns and of the value cache. -/

noncomputable section
open Idealize.ShloMosaic Idealize.ShloMosaic.TcCoe Idealize.SL.Sem
namespace Cert.MixReferenceIdeal.Term
open Cert.MixReferenceIdeal Cert.MixReferenceIdeal.Gen

/-- The scores of every head. -/
def scores (z : FVec Ideal S16384x5632 .f32) (mk : FVec Ideal S256x512 .bf16) : FVec Ideal S4x16384x256 .f32 :=
  mulf (Host.dotGeneral dot_S16384x4x128_S256x4x128_S4x16384x256_2_2_0_0_1_1 none (shapeCast _ (extractStridedSlice S16384x512 ![0, 4608] z slices_S16384x5632_S16384x512_0_4608) shapeCasts_S16384x512_S16384x4x128) (shapeCast _ (extf .f32 mk bitsLt_bf16_f32) shapeCasts_S256x512_S256x4x128)) (broadcastInDim S4x16384x256 ![] bcast_S_S4x16384x256 (constant S_ .f32 0x3DB504F3#32))

/-- The exponentials of scores less their largest. -/
def weights (s : FVec Ideal S4x16384x256 .f32) : FVec Ideal S4x16384x256 .f32 :=
  Host.exp (subf s (broadcastInDim S4x16384x256 ![0, 1, 2] bcast_S4x16384x1_S4x16384x256_0_1_2 (broadcastInDim S4x16384x1 ![0, 1] bcast_S4x16384_S4x16384x1_0_1 (Host.reduce FloatOps.maximumf s (constant S_ .f32 0xFF800000#32) reducesTo_S4x16384x256_S4x16384_d2 h_S_))))

/-- The values weighted, each weight over the sum of its row. -/
def attended (w : FVec Ideal S4x16384x256 .f32) (mv : FVec Ideal S256x512 .bf16) : FVec Ideal S16384x512 .f32 :=
  shapeCast _ (transpose S16384x4x128 [2, 0, 1] (Host.dotGeneral dot_S256x4x128_S4x16384x256_S4x128x16384_0_2_2_1_1_0 none (shapeCast _ (extf .f32 mv bitsLt_bf16_f32) shapeCasts_S256x512_S256x4x128) (Host.divf w (broadcastInDim S4x16384x256 ![0, 1, 2] bcast_S4x16384x1_S4x16384x256_0_1_2 (broadcastInDim S4x16384x1 ![0, 1] bcast_S4x16384_S4x16384x1_0_1 (Host.reduceAdd w (constant S_ .f32 0x00000000#32) reducesTo_S4x16384x256_S4x16384_d2 h_S_))))) transposes_S4x128x16384_S16384x4x128_2_0_1) shapeCasts_S16384x4x128_S16384x512

/-- The gate of the memory's columns. -/
def gated (z : FVec Ideal S16384x5632 .f32) : FVec Ideal S16384x512 .f32 :=
  mulf (extractStridedSlice S16384x512 ![0, 5120] z slices_S16384x5632_S16384x512_0_5120) (Host.divf (broadcastInDim S16384x512 ![] bcast_S_S16384x512 (constant S_ .f32 0x3F800000#32)) (addf (broadcastInDim S16384x512 ![] bcast_S_S16384x512 (constant S_ .f32 0x3F800000#32)) (Host.exp (Host.negf (extractStridedSlice S16384x512 ![0, 5120] z slices_S16384x5632_S16384x512_0_5120)))))

/-- The three parts side by side. -/
def joined (a : FVec Ideal S16384x1024 .f32) (b c : FVec Ideal S16384x512 .f32) : FVec Ideal S16384x2048 .bf16 :=
  truncf .bf16 (concatenate S16384x2048 1 [⟨S16384x1024, a⟩, ⟨S16384x512, b⟩, ⟨S16384x512, c⟩] concatenates_S16384x1024_S16384x512_S16384x512_S16384x2048_d1) bitsLt_bf16_f32

/-- The memory's columns. -/
def remembered (z : FVec Ideal S16384x5632 .f32) (mk mv : FVec Ideal S256x512 .bf16) : FVec Ideal S16384x512 .f32 :=
  mulf (attended (weights (scores z mk)) mv) (gated z)

/-- The value cache. -/
def cached (z : FVec Ideal S16384x5632 .f32) : FVec Ideal S128x256 .f32 :=
  shapeCast _ (extractStridedSlice S128x2x128 ![16256, 0, 0] (shapeCast _ (extractStridedSlice S16384x256 ![0, 1280] (extractStridedSlice S16384x2560 ![0, 0] z slices_S16384x5632_S16384x2560_0_0) slices_S16384x2560_S16384x256_0_1280) shapeCasts_S16384x256_S16384x2x128) slices_S16384x2x128_S128x2x128_16256_0_0) shapeCasts_S128x2x128_S128x256

theorem scores_at (z : FVec Ideal S16384x5632 .f32) (mk : FVec Ideal S256x512 .bf16) (h : Fin 4) (r : Fin 16384) (j : Fin 256) :
    scores z mk (ix3 h r j) = (∑ a : Fin 128, z (ix2 r ⟨4608 + (h * 128 + a), by omega⟩) * mk (ix2 j ⟨h * 128 + a, by omega⟩))
      * Ideal.ofBits .f32 0x3DB504F3#32 := by
  pointwise [scores]

theorem weights_at (s : FVec Ideal S4x16384x256 .f32) (h : Fin 4) (r : Fin 16384) (j : Fin 256) :
    weights s (ix3 h r j) = Ideal.exp (s (ix3 h r j) - Attend.top fun k : Fin 256 => s (ix3 h r k)) := by
  pointwise [weights, Attend.top]

theorem attended_at (w : FVec Ideal S4x16384x256 .f32) (mv : FVec Ideal S256x512 .bf16) (r : Fin 16384) (n : Fin 512) :
    attended w mv (ix2 r n) = ∑ j : Fin 256, mv (ix2 j n)
      * Ideal.div (w (ix3 ⟨n / 128, by omega⟩ r j)) (∑ k : Fin 256, w (ix3 ⟨n / 128, by omega⟩ r k)) := by
  pointwise [attended]

theorem gated_at (z : FVec Ideal S16384x5632 .f32) (r : Fin 16384) (n : Fin 512) :
    gated z (ix2 r n) = Attend.gate (z (ix2 r ⟨5120 + n, by omega⟩)) := by
  pointwise [gated, Attend.gate]
  rw [sub_eq_add_neg, zero_add]

theorem joined_at (a : FVec Ideal S16384x1024 .f32) (b c : FVec Ideal S16384x512 .f32) (r : Fin 16384) (l : Fin 2048) (n : Fin 512)
    (hn : (l : ℕ) = 1536 + n) : joined a b c (ix2 r l) = c (ix2 r n) := by
  pointwise [joined]
  rw [dif_neg (by omega), dif_neg (by omega)]
  exact congrArg c (by idx_ext <;> omega)

theorem cached_at (z : FVec Ideal S16384x5632 .f32) (a : Fin 128) (b : Fin 256) :
    cached z (ix2 a b) = z (ix2 ⟨16256 + a, by omega⟩ ⟨1280 + b, by omega⟩) := by
  pointwise [cached]

/-- The scale is a number. -/
theorem scale_finite : Attend.Finite (Ideal.ofBits .f32 0x3DB504F3#32) := by
  simp only [Ideal.ofBits, Ideal.ieee]
  exact Attend.Finite.coe _

/-- The memory's columns are the kernel's, the scores being numbers. -/
theorem mem_at (z : FVec Ideal S16384x5632 .f32) (mk mv : FVec Ideal S256x512 .bf16) (hz : ∀ i, Attend.Finite (z i))
    (hk : ∀ i, Attend.Finite (mk i)) (r : Fin 16384) (n : Fin 512) :
    remembered z mk mv (ix2 r n) = Cert.MixIdeal.Whole.mem z mk mv r n := by
  refine Eq.trans ?_ (Attend.out_eq (n := 255) _ _ _ fun j =>
    (Attend.Finite.sum fun a => (hz _).mul (hk _)).mul scale_finite).symm
  refine (congrArg₂ (· * ·) (attended_at _ _ r n) (gated_at z r n)).trans ?_
  simp only [weights_at, scores_at]

end Cert.MixReferenceIdeal.Term
end
-- ==== Proof.MixTables.lean ====
module

public import proofs.«01_k».proof.Proof.MixCore
public import proofs.«01_k».proof.Proof.Gen.MixIdeal.Frame.Runs
public import Idealize.ShloMosaic.Lib.Pointwise
public import Idealize.ShloMosaic.Lib.StableHlo.Run

@[expose] public section

set_option maxRecDepth 16384

/-! The tables of the rotary positions: what the host hands the mixers' kernel, read at an index. -/

noncomputable section
open Idealize.ShloMosaic Idealize.ShloMosaic.TcCoe Idealize.SL.Sem

namespace Cert.Rotary

/-- The frequency of a lane. -/
def freq (n : ℕ) : EReal :=
  Ideal.pow (Ideal.ofBits .f32 0x461C4000#32)
    (-Ideal.div (FloatOps.sitofp (F := Ideal) .f32 (BitVec.ofNat 32 n) * Ideal.ofBits .f32 0x40000000#32) (Ideal.ofBits .f32 0x43000000#32))

/-- The angle of a position and a lane. -/
def angle (r n : ℕ) : EReal := FloatOps.sitofp (F := Ideal) .f32 (BitVec.ofNat 32 r) * freq n

theorem toInt_ofNat (r : ℕ) (h : r < 2 ^ 31) : (BitVec.ofNat 32 r).toInt = r := by
  rw [BitVec.toInt_eq_toNat_of_lt (by rw [BitVec.toNat_ofNat]; omega), BitVec.toNat_ofNat, Nat.mod_eq_of_lt (by omega)]

theorem sitofp_ofNat (r : ℕ) (h : r < 2 ^ 31) : FloatOps.sitofp (F := Ideal) .f32 (BitVec.ofNat 32 r) = (((r : ℕ) : ℝ) : EReal) := by
  show (((BitVec.ofNat 32 r).toInt : ℝ) : EReal) = _
  rw [toInt_ofNat r h]
  norm_cast

theorem freq_real (n : ℕ) : ∃ w : ℝ, freq n = w := by
  have h0 : ∃ a : ℝ, Ideal.ofBits .f32 0x461C4000#32 = a := by
    simp only [Ideal.ofBits, Ideal.ieee]; exact ⟨_, rfl⟩
  have h1 : ∃ a : ℝ, Ideal.ofBits .f32 0x40000000#32 = a := by
    simp only [Ideal.ofBits, Ideal.ieee]; exact ⟨_, rfl⟩
  have h2 : Ideal.ofBits .f32 0x43000000#32 = ((128 : ℝ) : EReal) := by
    simp [Ideal.ofBits, Ideal.ieee]
    rw [← EReal.coe_mul]
    norm_num
  obtain ⟨a, ha⟩ := h0
  obtain ⟨b, hb⟩ := h1
  have h3 : ∃ k : ℝ, FloatOps.sitofp (F := Ideal) .f32 (BitVec.ofNat 32 n) = (k : EReal) := ⟨_, rfl⟩
  obtain ⟨k, hk⟩ := h3
  unfold freq
  rw [ha, hb, h2, hk, ← EReal.coe_mul, Ideal.div, if_neg (by norm_num), ← EReal.coe_inv, ← EReal.coe_mul, ← EReal.coe_neg]
  exact ⟨_, rfl⟩

/-- The cosine of a sum of positions. -/
theorem cos_add (a b n : ℕ) (h : a + b < 2 ^ 31) :
    Ideal.cos (angle a n) * Ideal.cos (angle b n) - Ideal.sin (angle a n) * Ideal.sin (angle b n) = Ideal.cos (angle (a + b) n) := by
  obtain ⟨w, hw⟩ := freq_real n
  unfold angle
  rw [hw, sitofp_ofNat a (by omega), sitofp_ofNat b (by omega), sitofp_ofNat _ h, ← EReal.coe_mul, ← EReal.coe_mul, ← EReal.coe_mul]
  show ((Real.cos _ : ℝ) : EReal) * ((Real.cos _ : ℝ) : EReal) - ((Real.sin _ : ℝ) : EReal) * ((Real.sin _ : ℝ) : EReal) = ((Real.cos _ : ℝ) : EReal)
  rw [← EReal.coe_mul, ← EReal.coe_mul, ← EReal.coe_sub, Nat.cast_add, add_mul, Real.cos_add]

/-- The sine of a sum of positions. -/
theorem sin_add (a b n : ℕ) (h : a + b < 2 ^ 31) :
    Ideal.sin (angle a n) * Ideal.cos (angle b n) + Ideal.cos (angle a n) * Ideal.sin (angle b n) = Ideal.sin (angle (a + b) n) := by
  obtain ⟨w, hw⟩ := freq_real n
  unfold angle
  rw [hw, sitofp_ofNat a (by omega), sitofp_ofNat b (by omega), sitofp_ofNat _ h, ← EReal.coe_mul, ← EReal.coe_mul, ← EReal.coe_mul]
  show ((Real.sin _ : ℝ) : EReal) * ((Real.cos _ : ℝ) : EReal) + ((Real.cos _ : ℝ) : EReal) * ((Real.sin _ : ℝ) : EReal) = ((Real.sin _ : ℝ) : EReal)
  rw [← EReal.coe_mul, ← EReal.coe_mul, ← EReal.coe_add, Nat.cast_add, add_mul, Real.sin_add]

/-- And its negative, from negated factors. -/
theorem neg_sin_add (a b n : ℕ) (h : a + b < 2 ^ 31) :
    Ideal.sin (angle a n) * -Ideal.cos (angle b n) + Ideal.cos (angle a n) * -Ideal.sin (angle b n) = -Ideal.sin (angle (a + b) n) := by
  obtain ⟨w, hw⟩ := freq_real n
  unfold angle
  rw [hw, sitofp_ofNat a (by omega), sitofp_ofNat b (by omega), sitofp_ofNat _ h, ← EReal.coe_mul, ← EReal.coe_mul, ← EReal.coe_mul]
  show ((Real.sin _ : ℝ) : EReal) * -((Real.cos _ : ℝ) : EReal) + ((Real.cos _ : ℝ) : EReal) * -((Real.sin _ : ℝ) : EReal) = -((Real.sin _ : ℝ) : EReal)
  rw [← EReal.coe_neg, ← EReal.coe_neg, ← EReal.coe_neg, ← EReal.coe_mul, ← EReal.coe_mul, ← EReal.coe_add, Nat.cast_add, add_mul, Real.sin_add]
  congr 1
  ring

/-- A head's lanes turned by their position. -/
def turned (x : Fin 128 → EReal) (r : ℕ) (d : Fin 128) : EReal :=
  x d * Ideal.cos (angle r (d % 64)) + x ⟨(d + 64) % 128, by omega⟩ * (if (d : ℕ) < 64 then -Ideal.sin (angle r (d % 64)) else Ideal.sin (angle r (d % 64)))

theorem turned_congr {x y : Fin 128 → EReal} {r s : ℕ} {d e : Fin 128} (h : ∀ a, x a = y a) (hr : r = s) (hd : d = e) :
    turned x r d = turned y s e := by
  rw [funext h, hr, hd]

end Cert.Rotary

namespace Cert.MixIdeal.Tables
open Cert.MixIdeal Cert.MixIdeal.Gen

/-- The frequencies. -/
def freqs : FVec Ideal S64 .f32 :=
  Host.powf (broadcastInDim S64 ![] bcast_S_S64 (constant S_ .f32 0x461C4000#32)) (Host.negf (Host.divf (mulf (sitofp .f32 (iotaInDim S64 32 0)) (broadcastInDim S64 ![] bcast_S_S64 (constant S_ .f32 0x40000000#32))) (broadcastInDim S64 ![] bcast_S_S64 (constant S_ .f32 0x43000000#32))))

/-- Positions times frequencies. -/
def angles (p : IVec S128 32) : FVec Ideal S128x64 .f32 :=
  mulf (broadcastInDim S128x64 ![0, 1] bcast_S128x1_S128x64_0_1 (broadcastInDim S128x1 ![0] bcast_S128_S128x1_0 (sitofp .f32 p))) (broadcastInDim S128x64 ![0, 1] bcast_S1x64_S128x64_0_1 (broadcastInDim S1x64 ![1] bcast_S64_S1x64_1 freqs))

/-- Two halves side by side, as one page. -/
def page (a b : FVec Ideal S128x64 .f32) : FVec Ideal S1x128x128 .f32 :=
  broadcastInDim S1x128x128 ![1, 2] bcast_S128x128_S1x128x128_1_2 (concatenate S128x128 1 [⟨S128x64, a⟩, ⟨S128x64, b⟩] concatenates_S128x64_S128x64_S128x128_d1)

/-- The angles where the chunks begin. -/
def coarse : FVec Ideal S128x64 .f32 := angles (muli (iotaInDim S128 32 0) (broadcastInDim S128 ![] bcast_S_S128 (constantI S_ 32 128#32)))

/-- The angles inside a chunk. -/
def fine : FVec Ideal S128x64 .f32 := angles (iotaInDim S128 32 0)

/-- The chunks' table. -/
def chunks : FVec Ideal S2x128x128 .f32 :=
  concatenate S2x128x128 0 [⟨S1x128x128, page (Host.cos coarse) (Host.cos coarse)⟩, ⟨S1x128x128, page (Host.sin coarse) (Host.sin coarse)⟩] concatenates_S1x128x128_S1x128x128_S2x128x128_d0

/-- The rows' table. -/
def rows : FVec Ideal S4x128x128 .f32 :=
  concatenate S4x128x128 0 [⟨S1x128x128, page (Host.cos fine) (Host.cos fine)⟩, ⟨S1x128x128, page (Host.sin fine) (Host.sin fine)⟩,
    ⟨S1x128x128, page (Host.negf (Host.cos fine)) (Host.cos fine)⟩, ⟨S1x128x128, page (Host.negf (Host.sin fine)) (Host.sin fine)⟩] concatenates_S1x128x128_S1x128x128_S1x128x128_S1x128x128_S4x128x128_d0

variable (m : (ℓ : Loc nD τ sig) → Buf (Elt Ideal) ℓ)

set_option maxHeartbeats 2000000 in
theorem V_chunks (c : Dev nD) : V m c main_v40 = chunks := by
  unfold V
  simp only [hostOps0]
  after_results_simp
  rfl

set_option maxHeartbeats 2000000 in
theorem V_rows (c : Dev nD) : V m c main_v51 = rows := by
  unfold V
  simp only [hostOps0]
  after_results_simp
  rfl

theorem freqs_at (d : Fin 64) : freqs (ix1 d) = Rotary.freq d := by
  pointwise [freqs]
  rfl

theorem angles_at (p : IVec S128 32) (i : Fin 128) (d : Fin 64) (r : ℕ) (h : p (ix1 i) = BitVec.ofNat 32 r) :
    angles p (ix2 i d) = Rotary.angle r d := by
  pointwise [angles]
  rw [freqs_at, h]
  rfl

theorem fine_at (i : Fin 128) (d : Fin 64) : fine (ix2 i d) = Rotary.angle i d :=
  angles_at _ i d i rfl

theorem coarse_at (i : Fin 128) (d : Fin 64) : coarse (ix2 i d) = Rotary.angle (128 * i) d :=
  angles_at _ i d _ (by pointwise; revert i; decide +kernel)

theorem page_at (a b : FVec Ideal S128x64 .f32) (o : Fin 1) (i d : Fin 128) :
    page a b (ix3 o i d) = if (d : ℕ) < 64 then a (ix2 i ⟨d % 64, by omega⟩) else b (ix2 i ⟨d % 64, by omega⟩) := by
  pointwise [page]
  split_ifs with h
  · exact congrArg a (by idx_ext <;> omega)
  all_goals exact congrArg b (by idx_ext <;> omega)

theorem chunk_cos (i d : Fin 128) : chunks (ix3 0 i d) = Ideal.cos (Rotary.angle (128 * i) (d % 64)) := by
  pointwise [chunks]
  rw [page_at]
  pointwise
  simp only [coarse_at, ite_self]

theorem chunk_sin (i d : Fin 128) : chunks (ix3 1 i d) = Ideal.sin (Rotary.angle (128 * i) (d % 64)) := by
  pointwise [chunks]
  rw [page_at]
  pointwise
  simp only [coarse_at, ite_self]

theorem row_cos (i d : Fin 128) : rows (ix3 0 i d) = Ideal.cos (Rotary.angle i (d % 64)) := by
  pointwise [rows]
  rw [page_at]
  pointwise
  simp only [fine_at, ite_self]

theorem row_sin (i d : Fin 128) : rows (ix3 1 i d) = Ideal.sin (Rotary.angle i (d % 64)) := by
  pointwise [rows]
  rw [page_at]
  pointwise
  simp only [fine_at, ite_self]

theorem row_cos' (i d : Fin 128) : rows (ix3 2 i d)
    = if (d : ℕ) < 64 then -Ideal.cos (Rotary.angle i (d % 64)) else Ideal.cos (Rotary.angle i (d % 64)) := by
  pointwise [rows]
  rw [page_at]
  pointwise
  simp only [fine_at]

theorem row_sin' (i d : Fin 128) : rows (ix3 3 i d)
    = if (d : ℕ) < 64 then -Ideal.sin (Rotary.angle i (d % 64)) else Ideal.sin (Rotary.angle i (d % 64)) := by
  pointwise [rows]
  rw [page_at]
  pointwise
  simp only [fine_at]

/-- The cosines a point puts together. -/
theorem cosines (t i d : Fin 128) : chunks (ix3 0 t d) * rows (ix3 0 i d) - chunks (ix3 1 t d) * rows (ix3 1 i d)
    = Ideal.cos (Rotary.angle (128 * t + i) (d % 64)) := by
  rw [chunk_cos, chunk_sin, row_cos, row_sin, Rotary.cos_add _ _ _ (by omega)]

/-- The signed sines a point puts together. -/
theorem sines (t i d : Fin 128) : chunks (ix3 1 t d) * rows (ix3 2 i d) + chunks (ix3 0 t d) * rows (ix3 3 i d)
    = if (d : ℕ) < 64 then -Ideal.sin (Rotary.angle (128 * t + i) (d % 64)) else Ideal.sin (Rotary.angle (128 * t + i) (d % 64)) := by
  rw [chunk_cos, chunk_sin, row_cos', row_sin']
  split_ifs with h
  · exact Rotary.neg_sin_add _ _ _ (by omega)
  · exact Rotary.sin_add _ _ _ (by omega)

end Cert.MixIdeal.Tables
end
-- ==== Proof.MixWindow.lean ====
module

public import proofs.«01_k».proof.Proof.MixTables
public import proofs.«01_k».proof.Proof.MixValue
public import Idealize.ShloMosaic.Lib.Tactic.WordOmega

@[expose] public section

set_option maxRecDepth 16384

/-! Attention with a sink over a window of the sequence: one query's result, and the kernel's heads at an index. -/

noncomputable section
open Idealize.ShloMosaic Idealize.ShloMosaic.TcCoe Idealize.SL.Sem

namespace Cert.Attend

/-- The largest of the scores and the sink. -/
def topS {n : ℕ} (s : Fin n → EReal) (k : EReal) : EReal := max (top s) k

/-- A query's result where the sink takes a share of the weight. -/
def outS {n : ℕ} (s : Fin n → EReal) (k : EReal) (v : Fin n → EReal) (g : EReal) : EReal :=
  (∑ j, Ideal.exp (s j - topS s k) * v j) * Ideal.div 1 (∑ j, Ideal.exp (s j - topS s k) + Ideal.exp (k - topS s k)) * gate g

theorem outS_congr {n : ℕ} {s s' v v' : Fin n → EReal} {k k' g g' : EReal} (hs : ∀ j, s j = s' j) (hk : k = k')
    (hv : ∀ j, v j = v' j) (hg : g = g') : outS s k v g = outS s' k' v' g' := by
  rw [funext hs, funext hv, hk, hg]

theorem sub_ne_top' {x y : EReal} (hx : x ≠ ⊤) (hy : Finite y) : x - y ≠ ⊤ := by
  rw [sub_eq_add_neg]
  exact EReal.add_ne_top hx fun h => hy.2 (EReal.neg_eq_top_iff.1 h)

/-- The same with each weight divided. -/
theorem outS_eq {n : ℕ} (s : Fin n → EReal) (k : EReal) (v : Fin n → EReal) (g : EReal) (hs : ∀ j, s j ≠ ⊤) (hk : Finite k) :
    outS s k v g = (∑ j, v j * Ideal.div (Ideal.exp (s j - topS s k))
      (∑ j, Ideal.exp (s j - topS s k) + Ideal.exp (k - topS s k))) * gate g := by
  have ht : Finite (topS s k) :=
    ⟨ne_of_lt (max_lt (lt_top_iff_ne_top.2 (top_ne_top hs)) (lt_top_iff_ne_top.2 hk.1)),
      (lt_of_lt_of_le (bot_lt_iff_ne_bot.2 hk.2) (le_max_right _ _)).ne'⟩
  have h0 : 0 < ∑ j, Ideal.exp (s j - topS s k) + Ideal.exp (k - topS s k) :=
    lt_of_lt_of_le (exp_pos (hk.sub ht)) (le_add_of_nonneg_left (Finset.sum_nonneg fun j _ => exp_nonneg _))
  unfold outS
  rw [divided _ _ h0 (EReal.add_ne_top (sum_ne_top fun j => exp_ne_top (sub_ne_top' (hs j) ht)) (exp_ne_top (hk.sub ht).1))]

end Cert.Attend

namespace Cert.MixIdeal.Window
open Cert.MixIdeal Cert.MixIdeal.Gen

/-- Four sinks, each for the rows of its head. -/
def column (s0 s1 s2 s3 : FVec Ideal S128x1 .f32) : FVec Ideal S512x1 .f32 :=
  concatenate S512x1 0 [⟨S128x1, s0⟩, ⟨S128x1, s1⟩, ⟨S128x1, s2⟩, ⟨S128x1, s3⟩] concatenates_S128x1_S128x1_S128x1_S128x1_S512x1_d0

/-- The scores inside the window. -/
def scores (band : IVec S512x256 1) (k : FVec Ideal S256x128 .bf16) (q : FVec Ideal S512x128 .bf16) : FVec Ideal S512x256 .f32 :=
  select band (mulf (matmul (F := Ideal) dot_S512x128_S256x128_S512x256_1_1_0_0_n_n none q k (constant S512x256 .f32 0x00000000#32))
    (broadcast S512x256 (Scalar.ofBits .f32 0x3DB504F3#32))) (broadcast S512x256 (Scalar.ofBits .f32 0xFF800000#32))

/-- Four heads' results over scores and a column of sinks. -/
def heads (s : FVec Ideal S512x256 .f32) (col : FVec Ideal S512x1 .f32) (v : FVec Ideal S256x128 .bf16) : FVec Ideal S512x128 .f32 :=
  have m : FVec Ideal S512x1 .f32 := maximumf (shapeCast S512x1 (multiReduction .maximumf [1] S512 s 0xFF800000#32 reduces_S512x256_S512 (.inl rfl) rfl) shapeCasts_S512_S512x1) col
  have p : FVec Ideal S512x256 .f32 := exp (subf s (broadcastTo S512x256 m broadcasts_S512x1_S512x256))
  have l : FVec Ideal S512x1 .f32 := addf (shapeCast S512x1 (multiReduction .add [1] S512 p 0x00000000#32 reduces_S512x256_S512 (.inl rfl) rfl) shapeCasts_S512_S512x1) (exp (subf col m))
  mulf (matmul (F := Ideal) dot_S512x256_S256x128_S512x128_1_0_0_1_n_n none (truncf .bf16 p bitsLt_bf16_f32) v (constant S512x128 .f32 0x00000000#32))
    (broadcastTo S512x128 (divf (broadcast S512x1 (Scalar.ofBits .f32 0x3F800000#32)) l) broadcasts_S512x1_S512x128)

theorem pay48 (band : IVec S512x256 1) (k v : FVec Ideal S256x128 .bf16) (s0 s1 s2 s3 : FVec Ideal S128x1 .f32) (q : FVec Ideal S512x128 .bf16) :
    k0_pay48 (F := Ideal) band k v s0 s1 s2 s3 q = heads (scores band k q) (column s0 s1 s2 s3) v := rfl

/-- The first group's heads are the same computation. -/
theorem pay29 (c s : FVec Ideal S128x128 .f32) (band : IVec S512x256 1) (k v : FVec Ideal S256x128 .bf16)
    (q0 q1 q2 q3 : FVec Ideal S128x128 .f32) (s0 s1 s2 s3 : Elt Ideal .f32) :
    k0_pay29 (F := Ideal) v (k0_pay27 c s band k (k0_pay21 c s q0) (k0_pay22 s0) q1 s1 q2 s2 q3 s3)
        (k0_pay28 c s band k (k0_pay21 c s q0) (k0_pay22 s0) q1 s1 q2 s2 q3 s3) (constant S512x128 .f32 0x00000000#32)
      = heads (scores band k (k0_pay47 c s q0 q1 q2 q3)) (column (k0_pay43 s0) (k0_pay44 s1) (k0_pay45 s2) (k0_pay46 s3)) v := rfl

theorem scores_at (band : IVec S512x256 1) (k : FVec Ideal S256x128 .bf16) (q : FVec Ideal S512x128 .bf16) (R : Fin 512) (j : Fin 256) :
    scores band k q (ix2 R j) = if band (ix2 R j) = 1#1 then (∑ a : Fin 128, q (ix2 R a) * k (ix2 j a)) * Ideal.ofBits .f32 0x3DB504F3#32
      else Ideal.ofBits .f32 0xFF800000#32 := by
  pointwise [scores]
  rfl

theorem heads_at (s : FVec Ideal S512x256 .f32) (col : FVec Ideal S512x1 .f32) (v : FVec Ideal S256x128 .bf16) (R : Fin 512) (d : Fin 128)
    (g : EReal) :
    heads s col v (ix2 R d) * Attend.gate g
      = Attend.outS (fun j : Fin 256 => s (ix2 R j)) (col (ix2 R 0)) (fun j => v (ix2 j d)) g := by
  pointwise [heads, Attend.outS, Attend.topS, Attend.top]

/-- A head's lanes turned by the cosines and the signed sines of a point. -/
def rot (c s q : FVec Ideal S128x128 .f32) (i a : Fin 128) : EReal :=
  q (ix2 i a) * c (ix2 i a) + q (ix2 i ⟨(a + 128 - 64) % 128, by omega⟩) * s (ix2 i a)

theorem column_at (s0 s1 s2 s3 : Elt Ideal .f32) (R : Fin 512) :
    column (k0_pay43 s0) (k0_pay44 s1) (k0_pay45 s2) (k0_pay46 s3) (ix2 R 0)
      = if (R : ℕ) < 128 then s0 else if (R : ℕ) - 128 < 128 then s1 else if (R : ℕ) - 128 - 128 < 128 then s2 else s3 := by
  pointwise [column, k0_pay43, k0_pay44, k0_pay45, k0_pay46]
  simp only [dite_eq_ite]

theorem pay14_at (c s k : FVec Ideal S128x128 .f32) (i a : Fin 128) : k0_pay14 (F := Ideal) c s k (ix2 i a) = rot c s k i a := by
  pointwise [k0_pay14, rot]

theorem pay47_at (c s q0 q1 q2 q3 : FVec Ideal S128x128 .f32) (R : Fin 512) (a : Fin 128) :
    k0_pay47 (F := Ideal) c s q0 q1 q2 q3 (ix2 R a)
      = if h : (R : ℕ) < 128 then rot c s q0 ⟨R, h⟩ a else if h : (R : ℕ) - 128 < 128 then rot c s q1 ⟨R - 128, h⟩ a
        else if h : (R : ℕ) - 128 - 128 < 128 then rot c s q2 ⟨R - 128 - 128, h⟩ a else rot c s q3 ⟨R - 128 - 128 - 128, by omega⟩ a := by
  pointwise [k0_pay47, rot]

/-- The keys of the chunk before and of this chunk. -/
theorem pay39_at (c s k : FVec Ideal S128x128 .f32) (kp : FVec Ideal S128x128 .bf16) (j : Fin 256) (a : Fin 128) :
    k0_pay39 (F := Ideal) c s k kp (ix2 j a) = if h : (j : ℕ) < 128 then kp (ix2 ⟨j, h⟩ a) else rot c s k ⟨j - 128, by omega⟩ a := by
  pointwise [k0_pay39, k0_pay37, k0_pay36, rot]

/-- And the values. -/
theorem pay40_at (v : FVec Ideal S128x128 .f32) (vp : FVec Ideal S128x128 .bf16) (j : Fin 256) (a : Fin 128) :
    k0_pay40 (F := Ideal) v vp (ix2 j a) = if h : (j : ℕ) < 128 then vp (ix2 ⟨j, h⟩ a) else v (ix2 ⟨j - 128, by omega⟩ a) := by
  pointwise [k0_pay40, k0_pay38]

theorem pay17 (c s k : FVec Ideal S128x128 .f32) (kp : FVec Ideal S128x128 .bf16) : k0_pay17 (F := Ideal) c s k kp = k0_pay39 c s k kp := rfl

theorem pay18 (v : FVec Ideal S128x128 .f32) (vp : FVec Ideal S128x128 .bf16) : k0_pay18 (F := Ideal) v vp = k0_pay40 v vp := rfl

/-- Row `i` of head `k`. -/
def row (k : ℕ) (hk : k < 4) (i : Fin 128) : Fin 512 := ⟨128 * k + i, by omega⟩

/-- A gated head out of the four. -/
def gated (o : FVec Ideal S512x128 .f32) (g : FVec Ideal S128x128 .f32) (k : ℕ) (hk : k < 4) : FVec Ideal S128x128 .bf16 :=
  fun x => o (ix2 (row k hk (x 0)) (x 1)) * Attend.gate (g x)

theorem pay49 (band : IVec S512x256 1) (k v : FVec Ideal S256x128 .bf16) (s0 s1 s2 s3 : FVec Ideal S128x1 .f32) (q : FVec Ideal S512x128 .bf16)
    (g : FVec Ideal S128x128 .f32) (x : S128x128.Idx) :
    k0_pay49 (F := Ideal) band k v s0 s1 s2 s3 q g x = gated (k0_pay48 band k v s0 s1 s2 s3 q) g 0 (by omega) x := by
  idx_vars x
  show _ = (k0_pay48 band k v s0 s1 s2 s3 q) (ix2 ⟨128 * 0 + x0, _⟩ x1) * Attend.gate (g (ix2 x0 x1))
  pointwise [k0_pay49, Attend.gate]
theorem pay52 (o : FVec Ideal S512x128 .f32) (g : FVec Ideal S128x128 .f32) (x : S128x128.Idx) :
    k0_pay52 (F := Ideal) o g (k0_pay50 g) k0_pay51 x = gated o g 1 (by omega) x := by
  idx_vars x
  show _ = o (ix2 ⟨128 * 1 + x0, _⟩ x1) * Attend.gate (g (ix2 x0 x1))
  pointwise [k0_pay52, k0_pay50, k0_pay51, Attend.gate]
theorem pay53 (o : FVec Ideal S512x128 .f32) (g : FVec Ideal S128x128 .f32) (x : S128x128.Idx) :
    k0_pay53 (F := Ideal) o g x = gated o g 2 (by omega) x := by
  idx_vars x
  show _ = o (ix2 ⟨128 * 2 + x0, _⟩ x1) * Attend.gate (g (ix2 x0 x1))
  pointwise [k0_pay53, Attend.gate]
theorem pay54 (o : FVec Ideal S512x128 .f32) (g : FVec Ideal S128x128 .f32) (x : S128x128.Idx) :
    k0_pay54 (F := Ideal) o g x = gated o g 3 (by omega) x := by
  idx_vars x
  show _ = o (ix2 ⟨128 * 3 + x0, _⟩ x1) * Attend.gate (g (ix2 x0 x1))
  pointwise [k0_pay54, Attend.gate]
theorem pay30 (v : FVec Ideal S256x128 .bf16) (l : FVec Ideal S512x1 .f32) (p : FVec Ideal S512x256 .bf16) (z : FVec Ideal S512x128 .f32)
    (g : FVec Ideal S128x128 .f32) (x : S128x128.Idx) : k0_pay30 (F := Ideal) v l p z g x = gated (k0_pay29 v l p z) g 0 (by omega) x := by
  idx_vars x
  show _ = (k0_pay29 v l p z) (ix2 ⟨128 * 0 + x0, _⟩ x1) * Attend.gate (g (ix2 x0 x1))
  pointwise [k0_pay30, Attend.gate]
theorem pay31 (v : FVec Ideal S256x128 .bf16) (l : FVec Ideal S512x1 .f32) (p : FVec Ideal S512x256 .bf16) (z : FVec Ideal S512x128 .f32)
    (g : FVec Ideal S128x128 .f32) (x : S128x128.Idx) : k0_pay31 (F := Ideal) v l p z g x = gated (k0_pay29 v l p z) g 1 (by omega) x := by
  idx_vars x
  show _ = (k0_pay29 v l p z) (ix2 ⟨128 * 1 + x0, _⟩ x1) * Attend.gate (g (ix2 x0 x1))
  pointwise [k0_pay31, Attend.gate]
theorem pay34 (o : FVec Ideal S512x128 .f32) (g : FVec Ideal S128x128 .f32) (x : S128x128.Idx) :
    k0_pay34 (F := Ideal) o g (k0_pay32 g) k0_pay33 x = gated o g 2 (by omega) x := by
  idx_vars x
  show _ = o (ix2 ⟨128 * 2 + x0, _⟩ x1) * Attend.gate (g (ix2 x0 x1))
  pointwise [k0_pay34, k0_pay32, k0_pay33, Attend.gate]
theorem pay35 (o : FVec Ideal S512x128 .f32) (g : FVec Ideal S128x128 .f32) (x : S128x128.Idx) :
    k0_pay35 (F := Ideal) o g x = gated o g 3 (by omega) x := by
  idx_vars x
  show _ = o (ix2 ⟨128 * 3 + x0, _⟩ x1) * Attend.gate (g (ix2 x0 x1))
  pointwise [k0_pay35, Attend.gate]

/-- The window of a query: the row itself and the 127 before it, none before the sequence. -/
theorem band_at (t : Fin 128) (R : Fin 512) (j : Fin 256) :
    k0_pay13 k0_pay10 (iota Kind.tc S512x256 32 [1] iota_S512x256_d1_w32)
        (Scalar.select (Scalar.cmpi CmpIPredicate.sgt (BitVec.ofNat 32 t) 0#32) 0#32 128#32) k0_pay11 k0_pay12 (ix2 R j) = 1#1
      ↔ (R : ℕ) % 128 < j ∧ (j : ℕ) ≤ R % 128 + 128 ∧ 128 ≤ (t : ℕ) * 128 + j := by
  have h : ∀ a : Fin 512, IntOp.andi (BitVec.ofNat 32 a) 127#32 = BitVec.ofNat 32 (a % 128) := by decide +kernel
  have hb : Scalar.select (Scalar.cmpi CmpIPredicate.sgt (BitVec.ofNat 32 t) 0#32) 0#32 128#32 = BitVec.ofNat 32 (128 - t * 128) := by
    revert t; decide +kernel
  rw [hb]
  pointwise [k0_pay13, k0_pay10, k0_pay11, k0_pay12]
  rw [h]
  word_omega

variable (z : FVec Ideal S16384x5632 .f32) (sk : FVec Ideal S8 .f32)

theorem z_congr {r r' : Fin 16384} {n n' : Fin 5632} (hr : (r : ℕ) = r') (hn : (n : ℕ) = n') : z (ix2 r n) = z (ix2 r' n') := by
  rw [Fin.ext hr, Fin.ext hn]

theorem sk_congr {n n' : Fin 8} (hn : (n : ℕ) = n') : sk (ix1 n) = sk (ix1 n') := by
  rw [Fin.ext hn]

/-- A query of row `r`, of lane `n`'s head. -/
def query (r : Fin 16384) (n : Fin 1024) (a : Fin 128) : EReal :=
  Rotary.turned (fun e => z (ix2 r ⟨n / 128 * 128 + e, by omega⟩)) r a

/-- The turned key of a row, of one of the two groups. -/
def key (r : Fin 16384) (g : Fin 2) (a : Fin 128) : EReal :=
  Rotary.turned (fun e => z (ix2 r ⟨1024 + (g * 128 + e), by omega⟩)) r a

/-- The value of a row. -/
def value (r : Fin 16384) (g : Fin 2) (a : Fin 128) : EReal := z (ix2 r ⟨1280 + (g * 128 + a), by omega⟩)

/-- Something of each row, over the chunk before chunk `t` and chunk `t`; zero before the sequence. -/
def around (t : Fin 128) (f : Fin 16384 → EReal) (j : Fin 256) : EReal :=
  if h : (t : ℕ) * 128 + j < 128 then 0 else f ⟨t * 128 + j - 128, by omega⟩

/-- The score of a query and a place of its window. -/
def score (r : Fin 16384) (n : Fin 1024) (j : Fin 256) : EReal :=
  if (r : ℕ) % 128 < j ∧ (j : ℕ) ≤ r % 128 + 128 ∧ 128 ≤ (r : ℕ) / 128 * 128 + j then
    (∑ a : Fin 128, query z r n a * around ⟨r / 128, by omega⟩ (fun i => key z i ⟨n / 512, by omega⟩ a) j) * Ideal.ofBits .f32 0x3DB504F3#32
  else Ideal.ofBits .f32 0xFF800000#32

/-- The attention over the window of row `r`, at lane `n` of its 1024. -/
def swa (r : Fin 16384) (n : Fin 1024) : EReal :=
  Attend.outS (score z r n) (sk (ix1 ⟨n / 128, by omega⟩))
    (around ⟨r / 128, by omega⟩ fun i => value z i ⟨n / 512, by omega⟩ ⟨n % 128, by omega⟩) (z (ix2 r ⟨1536 + n, by omega⟩))

/-- What a point works with, in terms of the columns and the sinks. -/
structure Point (t : Fin 128) (g : Fin 2) (c s : FVec Ideal S128x128 .f32) (band : IVec S512x256 1) (k v : FVec Ideal S256x128 .bf16)
    (q0 q1 q2 q3 : FVec Ideal S128x128 .f32) (s0 s1 s2 s3 : Elt Ideal .f32) : Prop where
  hc : ∀ i d : Fin 128, c (ix2 i d) = Ideal.cos (Rotary.angle (128 * t + i) (d % 64))
  hs : ∀ i d : Fin 128, s (ix2 i d)
    = if (d : ℕ) < 64 then -Ideal.sin (Rotary.angle (128 * t + i) (d % 64)) else Ideal.sin (Rotary.angle (128 * t + i) (d % 64))
  hb : ∀ (R : Fin 512) (j : Fin 256), band (ix2 R j) = 1#1 ↔ (R : ℕ) % 128 < j ∧ (j : ℕ) ≤ R % 128 + 128 ∧ 128 ≤ (t : ℕ) * 128 + j
  hk : ∀ (j : Fin 256) (a : Fin 128), k (ix2 j a) = around t (fun i => key z i g a) j
  hv : ∀ (j : Fin 256) (a : Fin 128), v (ix2 j a) = around t (fun i => value z i g a) j
  hq0 : ∀ i e : Fin 128, q0 (ix2 i e) = z (ix2 ⟨128 * t + i, by omega⟩ ⟨512 * g + e, by omega⟩)
  hq1 : ∀ i e : Fin 128, q1 (ix2 i e) = z (ix2 ⟨128 * t + i, by omega⟩ ⟨512 * g + 128 + e, by omega⟩)
  hq2 : ∀ i e : Fin 128, q2 (ix2 i e) = z (ix2 ⟨128 * t + i, by omega⟩ ⟨512 * g + 256 + e, by omega⟩)
  hq3 : ∀ i e : Fin 128, q3 (ix2 i e) = z (ix2 ⟨128 * t + i, by omega⟩ ⟨512 * g + 384 + e, by omega⟩)
  hs0 : s0 = sk (ix1 ⟨4 * g, by omega⟩)
  hs1 : s1 = sk (ix1 ⟨4 * g + 1, by omega⟩)
  hs2 : s2 = sk (ix1 ⟨4 * g + 2, by omega⟩)
  hs3 : s3 = sk (ix1 ⟨4 * g + 3, by omega⟩)

theorem rot_at {t : Fin 128} {c s : FVec Ideal S128x128 .f32}
    (hc : ∀ i d : Fin 128, c (ix2 i d) = Ideal.cos (Rotary.angle (128 * t + i) (d % 64)))
    (hs : ∀ i d : Fin 128, s (ix2 i d)
      = if (d : ℕ) < 64 then -Ideal.sin (Rotary.angle (128 * t + i) (d % 64)) else Ideal.sin (Rotary.angle (128 * t + i) (d % 64)))
    (q : FVec Ideal S128x128 .f32) (i a : Fin 128) : rot c s q i a = Rotary.turned (fun e => q (ix2 i e)) (128 * t + i) a := by
  unfold rot Rotary.turned
  rw [hc, hs]
  exact congrArg (_ + q · * _) (by idx_ext <;> omega)

/-- A gated head of a point. -/
theorem head_at {t : Fin 128} {g : Fin 2} {c s : FVec Ideal S128x128 .f32} {band : IVec S512x256 1} {k v : FVec Ideal S256x128 .bf16}
    {q0 q1 q2 q3 : FVec Ideal S128x128 .f32} {s0 s1 s2 s3 : Elt Ideal .f32}
    (P : Point z sk t g c s band k v q0 q1 q2 q3 s0 s1 s2 s3) (G : FVec Ideal S128x128 .f32) (h : ℕ) (hh : h < 4)
    (hG : ∀ i e : Fin 128, G (ix2 i e) = z (ix2 ⟨128 * t + i, by omega⟩ ⟨1536 + (512 * g + 128 * h + e), by omega⟩))
    (x : S128x128.Idx) (r : Fin 16384) (n : Fin 1024) (hr : (r : ℕ) = 128 * t + (x 0 : Fin 128))
    (hn : (n : ℕ) = 512 * g + 128 * h + (x 1 : Fin 128)) :
    gated (heads (scores band k (k0_pay47 c s q0 q1 q2 q3)) (column (k0_pay43 s0) (k0_pay44 s1) (k0_pay45 s2) (k0_pay46 s3)) v) G h hh x
      = swa z sk r n := by
  idx_vars x
  have hx0 : (x0 : ℕ) < 128 := x0.isLt
  have hx1 : (x1 : ℕ) < 128 := x1.isLt
  have hr' : (r : ℕ) = 128 * t + x0 := hr
  have hn' : (n : ℕ) = 512 * g + 128 * h + x1 := hn
  have hR : (r : ℕ) / 128 = t := by omega
  have ht : (⟨r / 128, by omega⟩ : Fin 128) = t := Fin.ext hR
  have hg : (⟨n / 512, by omega⟩ : Fin 2) = g := Fin.ext (by show (n : ℕ) / 512 = g; omega)
  obtain ⟨R, hv⟩ : ∃ R : Fin 512, (R : ℕ) = 128 * h + x0 := ⟨⟨_, by omega⟩, rfl⟩
  have he : gated (heads (scores band k (k0_pay47 c s q0 q1 q2 q3)) (column (k0_pay43 s0) (k0_pay44 s1) (k0_pay45 s2) (k0_pay46 s3)) v) G h hh
      (ix2 x0 x1) = heads (scores band k (k0_pay47 c s q0 q1 q2 q3)) (column (k0_pay43 s0) (k0_pay44 s1) (k0_pay45 s2) (k0_pay46 s3)) v
        (ix2 R x1) * Attend.gate (G (ix2 x0 x1)) := by
    rw [show R = row h hh x0 from Fin.ext hv]
    rfl
  rw [he]
  refine (heads_at _ _ _ _ _ _).trans (Attend.outS_congr (fun j => ?_) ?_ (fun j => ?_) ?_)
  · rw [scores_at]
    unfold score
    rw [ht, hg]
    refine if_congr ((P.hb _ _).trans ?_) (congrArg (· * _) (Finset.sum_congr rfl fun a _ => congrArg₂ (· * ·) ?_ (P.hk _ _))) rfl
    · rw [hR, show (R : ℕ) % 128 = r % 128 by omega]
    · rw [pay47_at]
      simp only [rot_at P.hc P.hs]
      unfold query
      split_ifs with h0 h1 h2
      · exact Rotary.turned_congr (fun e => (P.hq0 _ _).trans (z_congr z (by first | omega | (dsimp only; omega)) (by first | omega | (dsimp only; omega)))) (by first | omega | (dsimp only; omega)) rfl
      · exact Rotary.turned_congr (fun e => (P.hq1 _ _).trans (z_congr z (by first | omega | (dsimp only; omega)) (by first | omega | (dsimp only; omega)))) (by first | omega | (dsimp only; omega)) rfl
      · exact Rotary.turned_congr (fun e => (P.hq2 _ _).trans (z_congr z (by first | omega | (dsimp only; omega)) (by first | omega | (dsimp only; omega)))) (by first | omega | (dsimp only; omega)) rfl
      · exact Rotary.turned_congr (fun e => (P.hq3 _ _).trans (z_congr z (by first | omega | (dsimp only; omega)) (by first | omega | (dsimp only; omega)))) (by first | omega | (dsimp only; omega)) rfl
  · rw [column_at]
    split_ifs with h0 h1 h2
    · exact P.hs0.trans (sk_congr sk (by first | omega | (dsimp only; omega)))
    · exact P.hs1.trans (sk_congr sk (by first | omega | (dsimp only; omega)))
    · exact P.hs2.trans (sk_congr sk (by first | omega | (dsimp only; omega)))
    · exact P.hs3.trans (sk_congr sk (by first | omega | (dsimp only; omega)))
  · refine (P.hv _ _).trans ?_
    rw [ht, hg, show (⟨n % 128, by omega⟩ : Fin 128) = x1 from Fin.ext (by show (n : ℕ) % 128 = x1; omega)]
  · exact (hG _ _).trans (z_congr z (by first | omega | (dsimp only; omega)) (by first | omega | (dsimp only; omega)))

end Cert.MixIdeal.Window
end
-- ==== Proof.MixPoint.lean ====
module

public import proofs.«01_k».proof.Proof.MixWindow
public import Idealize.ShloMosaic.Lib.Pipeline.ReadBack

@[expose] public section

set_option maxRecDepth 16384

/-! The mixers of the prompt: the columns of the attention over the window and the last window's keys. -/

noncomputable section
open Idealize.ShloMosaic Idealize.ShloMosaic.TcCoe Idealize.SL.Sem
open Idealize.ShloMosaic.Pipeline (Dat)
namespace Cert.MixIdeal.Window
open Cert.MixIdeal Cert.MixIdeal.Gen

/-- The tables and the sinks are staged whole. -/
theorem idx : ∀ t : Fin cfg0.N, win0_0.index t = ![0] ∧ win0_3.index t = ![0, 0, 0] ∧ win0_4.index t = ![0, 0, 0] :=
  (by decide +kernel : ∀ t : Fin grid0.N, win0_0.index t = ![0] ∧ win0_3.index t = ![0, 0, 0] ∧ win0_4.index t = ![0, 0, 0])

theorem coord : ∀ t : Fin cfg0.N, ((grid0.coords t 0 : Fin _) : ℕ) = t :=
  (by decide +kernel : ∀ t : Fin grid0.N, ((grid0.coords t 0 : Fin _) : ℕ) = t)

theorem off1 : ∀ t : Fin cfg0.N, k0_off1 (grid0.coords t) = ![0, t.val, 0] :=
  (by decide +kernel : ∀ t : Fin grid0.N, k0_off1 (grid0.coords t) = ![0, t.val, 0])

theorem off2 : ∀ t : Fin cfg0.N, k0_off2 (grid0.coords t) = ![1, t.val, 0] :=
  (by decide +kernel : ∀ t : Fin grid0.N, k0_off2 (grid0.coords t) = ![1, t.val, 0])

variable (m : (ℓ : Loc nD τ sig) → Buf (Elt Ideal) ℓ)

theorem chunks_at (c : Dev nD) (t : Fin cfg0.N) (h : Fin 2) (a d : Fin 128) :
    (show FVec Ideal S2x128x128 .f32 from iblk m c 3 t) (ix3 h a d) = Tables.chunks (ix3 h a d) := by
  rw [← Tables.V_chunks m c]
  blk_point [iblk, idx t]

theorem rows_at (c : Dev nD) (t : Fin cfg0.N) (h : Fin 4) (a d : Fin 128) :
    (show FVec Ideal S4x128x128 .f32 from iblk m c 4 t) (ix3 h a d) = Tables.rows (ix3 h a d) := by
  rw [← Tables.V_rows m c]
  blk_point [iblk, idx t]

theorem sinks_at (c : Dev nD) (t : Fin cfg0.N) (a : Fin 8) :
    (show FVec Ideal S8 .f32 from iblk m c 0 t) (ix1 a) = m ((c : Thread nD τ).loc main_arg0) (ix1 a) := by
  blk_point [iblk, idx t]

theorem ld1 (c : Dev nD) (t : Fin cfg0.N) (p : Fin 128) (hp : (p : ℕ) = t) (d : Fin 128) :
    (show FVec Ideal S1x1x128 .f32 from View.ld (iblk m c 3 t) (Rect.unit (k0_off1 (grid0.coords t)) S1x1x128.size (k0_off1_inb _))) (ix3 0 0 d)
      = Tables.chunks (ix3 0 p d) := by
  rw [← chunks_at m c t]
  obtain ⟨p, hpl⟩ := p
  obtain rfl : p = t.val := hp
  have e0 : k0_off1 (grid0.coords t) 0 = 0 := congrFun (off1 t) 0
  have e1 : k0_off1 (grid0.coords t) 1 = t := congrFun (off1 t) 1
  have e2 : k0_off1 (grid0.coords t) 2 = 0 := congrFun (off1 t) 2
  pointwise
  simp only [e0, e1, e2, zero_add]
  rfl

theorem ld2 (c : Dev nD) (t : Fin cfg0.N) (p : Fin 128) (hp : (p : ℕ) = t) (d : Fin 128) :
    (show FVec Ideal S1x1x128 .f32 from View.ld (iblk m c 3 t) (Rect.unit (k0_off2 (grid0.coords t)) S1x1x128.size (k0_off2_inb _))) (ix3 0 0 d)
      = Tables.chunks (ix3 1 p d) := by
  rw [← chunks_at m c t]
  obtain ⟨p, hpl⟩ := p
  obtain rfl : p = t.val := hp
  have e0 : k0_off2 (grid0.coords t) 0 = 1 := congrFun (off2 t) 0
  have e1 : k0_off2 (grid0.coords t) 1 = t := congrFun (off2 t) 1
  have e2 : k0_off2 (grid0.coords t) 2 = 0 := congrFun (off2 t) 2
  pointwise
  simp only [e0, e1, e2, zero_add]
  rfl

theorem pay8_at (v4 v7 : FVec Ideal S1x1x128 .f32) (v9 v13 : FVec Ideal S1x128x128 .f32) (i d : Fin 128) :
    k0_pay8 (F := Ideal) v4 v7 v9 v13 (ix2 i d) = v4 (ix3 0 0 d) * v9 (ix3 0 i d) - v7 (ix3 0 0 d) * v13 (ix3 0 i d) := by
  pointwise [k0_pay8, k0_pay6, k0_pay7]

theorem pay9_at (v4 v7 : FVec Ideal S1x1x128 .f32) (v18 v22 : FVec Ideal S1x128x128 .f32) (i d : Fin 128) :
    k0_pay9 (F := Ideal) v4 v7 v18 v22 (ix2 i d) = v7 (ix3 0 0 d) * v18 (ix3 0 i d) + v4 (ix3 0 0 d) * v22 (ix3 0 i d) := by
  pointwise [k0_pay9, k0_pay6, k0_pay7]

/-- The cosines of a point. -/
theorem cos_at (c : Dev nD) (t : Fin cfg0.N) (p : Fin 128) (hp : (p : ℕ) = t) (v4 v7 : FVec Ideal S1x1x128 .f32) (v9 v13 : FVec Ideal S1x128x128 .f32)
    (h4 : v4 = View.ld (iblk m c 3 t) (Rect.unit (k0_off1 (grid0.coords t)) S1x1x128.size (k0_off1_inb _)))
    (h7 : v7 = View.ld (iblk m c 3 t) (Rect.unit (k0_off2 (grid0.coords t)) S1x1x128.size (k0_off2_inb _)))
    (h9 : v9 = View.ld (iblk m c 4 t) (Rect.unit ![0, 0, 0] S1x128x128.size inb_S4x128x128_S1x128x128_0_0_0))
    (h13 : v13 = View.ld (iblk m c 4 t) (Rect.unit ![1, 0, 0] S1x128x128.size inb_S4x128x128_S1x128x128_1_0_0)) (i d : Fin 128) :
    k0_pay8 (F := Ideal) v4 v7 v9 v13 (ix2 i d) = Ideal.cos (Rotary.angle (128 * p + i) (d % 64)) := by
  have e9 : v9 (ix3 0 i d) = Tables.rows (ix3 0 i d) := by
    rw [← rows_at m c t, h9]
    pointwise
  have e13 : v13 (ix3 0 i d) = Tables.rows (ix3 1 i d) := by
    rw [← rows_at m c t, h13]
    pointwise
  rw [pay8_at, e9, e13, ← Tables.cosines, h4, h7]
  exact congrArg₂ (· * _ - · * _) (ld1 m c t p hp d) (ld2 m c t p hp d)

/-- The signed sines of a point. -/
theorem sin_at (c : Dev nD) (t : Fin cfg0.N) (p : Fin 128) (hp : (p : ℕ) = t) (v4 v7 : FVec Ideal S1x1x128 .f32) (v18 v22 : FVec Ideal S1x128x128 .f32)
    (h4 : v4 = View.ld (iblk m c 3 t) (Rect.unit (k0_off1 (grid0.coords t)) S1x1x128.size (k0_off1_inb _)))
    (h7 : v7 = View.ld (iblk m c 3 t) (Rect.unit (k0_off2 (grid0.coords t)) S1x1x128.size (k0_off2_inb _)))
    (h18 : v18 = View.ld (iblk m c 4 t) (Rect.unit ![2, 0, 0] S1x128x128.size inb_S4x128x128_S1x128x128_2_0_0))
    (h22 : v22 = View.ld (iblk m c 4 t) (Rect.unit ![3, 0, 0] S1x128x128.size inb_S4x128x128_S1x128x128_3_0_0)) (i d : Fin 128) :
    k0_pay9 (F := Ideal) v4 v7 v18 v22 (ix2 i d)
      = if (d : ℕ) < 64 then -Ideal.sin (Rotary.angle (128 * p + i) (d % 64)) else Ideal.sin (Rotary.angle (128 * p + i) (d % 64)) := by
  have e18 : v18 (ix3 0 i d) = Tables.rows (ix3 2 i d) := by
    rw [← rows_at m c t, h18]
    pointwise
  have e22 : v22 (ix3 0 i d) = Tables.rows (ix3 3 i d) := by
    rw [← rows_at m c t, h22]
    pointwise
  rw [pay9_at, e18, e22, ← Tables.sines, h4, h7]
  exact congrArg₂ (· * _ + · * _) (ld2 m c t p hp d) (ld1 m c t p hp d)

theorem pay41_at (c s k : FVec Ideal S128x128 .f32) (i a : Fin 128) : k0_pay41 (F := Ideal) (k0_pay37 c s k) (ix2 i a) = rot c s k i a := by
  pointwise [k0_pay41, k0_pay37, k0_pay36, rot]

theorem pay19_at (c s k : FVec Ideal S128x128 .f32) (i a : Fin 128) : k0_pay19 (F := Ideal) c s k (ix2 i a) = rot c s k i a := by
  pointwise [k0_pay19, k0_pay15, k0_pay14, rot]

theorem key_at (z : FVec Ideal S16384x5632 .f32) {t : Fin 128} {g : Fin 2} {c s k : FVec Ideal S128x128 .f32}
    (hc : ∀ i d : Fin 128, c (ix2 i d) = Ideal.cos (Rotary.angle (128 * t + i) (d % 64)))
    (hs : ∀ i d : Fin 128, s (ix2 i d)
      = if (d : ℕ) < 64 then -Ideal.sin (Rotary.angle (128 * t + i) (d % 64)) else Ideal.sin (Rotary.angle (128 * t + i) (d % 64)))
    (hk : ∀ i e : Fin 128, k (ix2 i e) = z (ix2 ⟨128 * t + i, by omega⟩ ⟨1024 + (g * 128 + e), by omega⟩)) (i a : Fin 128) :
    rot c s k i a = key z ⟨128 * t + i, by omega⟩ g a :=
  (rot_at hc hs k i a).trans (Rotary.turned_congr (hk i) rfl rfl)

theorem keys_at (z : FVec Ideal S16384x5632 .f32) {t : Fin 128} {g : Fin 2} {c s k : FVec Ideal S128x128 .f32} {kp : FVec Ideal S128x128 .bf16}
    (hc : ∀ i d : Fin 128, c (ix2 i d) = Ideal.cos (Rotary.angle (128 * t + i) (d % 64)))
    (hs : ∀ i d : Fin 128, s (ix2 i d)
      = if (d : ℕ) < 64 then -Ideal.sin (Rotary.angle (128 * t + i) (d % 64)) else Ideal.sin (Rotary.angle (128 * t + i) (d % 64)))
    (hk : ∀ i e : Fin 128, k (ix2 i e) = z (ix2 ⟨128 * t + i, by omega⟩ ⟨1024 + (g * 128 + e), by omega⟩))
    (hp : ∀ i a : Fin 128, kp (ix2 i a) = around t (fun r => key z r g a) ⟨i, by omega⟩) (j : Fin 256) (a : Fin 128) :
    k0_pay39 (F := Ideal) c s k kp (ix2 j a) = around t (fun r => key z r g a) j := by
  rw [pay39_at]
  split_ifs with h
  · exact hp _ _
  · rw [key_at z hc hs hk]
    unfold around
    rw [dif_neg (by omega)]
    exact congrArg (key z · g a) (Fin.ext (by dsimp only; omega))

theorem values_at (z : FVec Ideal S16384x5632 .f32) {t : Fin 128} {g : Fin 2} {v : FVec Ideal S128x128 .f32} {vp : FVec Ideal S128x128 .bf16}
    (hv : ∀ i e : Fin 128, v (ix2 i e) = z (ix2 ⟨128 * t + i, by omega⟩ ⟨1280 + (g * 128 + e), by omega⟩))
    (hp : ∀ i a : Fin 128, vp (ix2 i a) = around t (fun r => value z r g a) ⟨i, by omega⟩) (j : Fin 256) (a : Fin 128) :
    k0_pay40 (F := Ideal) v vp (ix2 j a) = around t (fun r => value z r g a) j := by
  rw [pay40_at]
  split_ifs with h
  · exact hp _ _
  · rw [hv]
    unfold around
    rw [dif_neg (by omega)]
    exact z_congr z (by dsimp only; omega) rfl

/-- The columns' block, from where it is loaded. -/
theorem ldz (c : Dev nD) (t : Fin cfg0.N) (p : Fin 128) (hp : (p : ℕ) = t) (o : ℕ) (ho : o + 128 ≤ 5632)
    (q : FVec Ideal S128x128 .f32)
    (hq : ∀ a b : Fin 128, q (ix2 a b) = (show FVec Ideal S128x5632 .f32 from iblk m c 1 t) (ix2 a ⟨o + b, by omega⟩))
    (i e : Fin 128) (r : Fin 16384) (n : Fin 5632) (hr : (r : ℕ) = 128 * p + i) (hn : (n : ℕ) = o + e) :
    q (ix2 i e) = m ((c : Thread nD τ).loc main_arg1) (ix2 r n) :=
  (hq i e).trans ((Whole.z_at m c t i _ r (by omega)).trans (z_congr _ rfl hn.symm))

def place (p i : Fin 128) : Fin 16384 := ⟨128 * p + i, by omega⟩
def group (b : Fin 256) : Fin 2 := ⟨b / 128, by omega⟩
def lane (b : Fin 256) : Fin 128 := ⟨b % 128, by omega⟩

/-- What a point leaves for the next, at an index of the buffer: `f` of its rows. -/
def left (f : Fin 16384 → Fin 2 → Fin 128 → EReal) (p : Fin 128) (y : S128x256.Idx) : EReal :=
  f (place p (y 0)) (group (y 1)) (lane (y 1))

theorem left_eq (f : Fin 16384 → Fin 2 → Fin 128 → EReal) (p : Fin 128) (y : S128x256.Idx) (r : Fin 16384) (g : Fin 2) (a : Fin 128)
    (hr : (r : ℕ) = 128 * p + (show Fin 128 from y 0)) (hb : ((show Fin 256 from y 1 : Fin 256) : ℕ) = 128 * g + a) : left f p y = f r g a := by
  idx_vars y
  have hr' : (r : ℕ) = 128 * p + y0 := hr
  have hb' : (y1 : ℕ) = 128 * g + a := hb
  show f (place p y0) (group y1) (lane y1) = f r g a
  rw [show place p y0 = r from Fin.ext hr.symm, show group y1 = g from Fin.ext (by show (y1 : ℕ) / 128 = g; omega),
    show lane y1 = a from Fin.ext (by show (y1 : ℕ) % 128 = a; omega)]

/-- The two stores of a point, over whatever was there. -/
theorem stores (f : Fin 16384 → Fin 2 → Fin 128 → EReal) (p : Fin 128) (w1 w0 : FVec Ideal S128x128 .bf16)
    (L : List (View.Piece (Elt Ideal) S128x256 .bf16)) (h1 : ∀ i a : Fin 128, w1 (ix2 i a) = f (place p i) 1 a)
    (h0 : ∀ i a : Fin 128, w0 (ix2 i a) = f (place p i) 0 a) (y : S128x256.Idx) :
    View.canon ([⟨Rect.unit (s := S128x256) ![0, 128] S128x128.size inb_S128x256_S128x128_0_128, w1⟩,
      ⟨Rect.unit (s := S128x256) ![0, 0] S128x128.size inb_S128x256_S128x128_0_0, w0⟩] ++ L) y = left f p y := by
  refine View.canon_append_of_piecesOf (Val := Elt Ideal) (e := .bf16) (left f p) L [_, _] ⟨fun x => ?_, fun x => ?_, trivial⟩ y ?_
  · idx_vars x
    refine (h1 x0 x1).trans (left_eq f p _ _ _ _ ?_ ?_).symm
    · show 128 * (p : ℕ) + x0 = 128 * p + (0 + 1 * x0)
      omega
    · show 128 + 1 * (x1 : ℕ) = 128 * 1 + x1
      omega
  · idx_vars x
    refine (h0 x0 x1).trans (left_eq f p _ _ _ _ ?_ ?_).symm
    · show 128 * (p : ℕ) + x0 = 128 * p + (0 + 1 * x0)
      omega
    · show 0 + 1 * (x1 : ℕ) = 128 * 0 + x1
      omega
  · exact View.cover_of_tiled ([⟨Rect.unit (s := S128x256) ![0, 128] S128x128.size inb_S128x256_S128x128_0_128, w1⟩,
      ⟨Rect.unit (s := S128x256) ![0, 0] S128x128.size inb_S128x256_S128x128_0_0, w0⟩] : List (View.Piece (Elt Ideal) S128x256 .bf16))
      S128x128.size (by rfl) y

/-- The keys that a point leaves. -/
theorem left_keys (c : Dev nD) (t : Fin cfg0.N) (p : Fin 128) (hp : (p : ℕ) = t) (y : S128x256.Idx) :
    (outsAt0 m c t.val t.isLt).2.2.2.2.2.2.1 y = left (key (m ((c : Thread nD τ).loc main_arg1))) p y := by
  have C := cos_at m c t p hp _ _ _ _ rfl rfl rfl rfl
  have S := sin_at m c t p hp _ _ _ _ rfl rfl rfl rfl
  by_cases ht : t.val % 128 = 0
  case' pos => rw [outsAt0_A m c t ht]; frame_out; refine stores _ p _ _ [_] (fun i a => ?_) (fun i a => ?_) y
  case' neg => rw [outsAt0_B m c t ht]; frame_out; refine stores _ p _ _ [] (fun i a => ?_) (fun i a => ?_) y
  case' neg.refine_1 | pos.refine_1 =>
    refine (pay41_at _ _ _ _ _).trans (key_at (g := 1) _ C S (fun i e => ldz m c t p hp 1152 (by omega) _ (fun a b => ?_) i e _ _ rfl
      (by show 1024 + (1 * 128 + (e : ℕ)) = _; omega)) _ _)
  case' neg.refine_2 | pos.refine_2 =>
    refine (pay19_at _ _ _ _ _).trans (key_at (g := 0) _ C S (fun i e => ldz m c t p hp 1024 (by omega) _ (fun a b => ?_) i e _ _ rfl
      (by show 1024 + (0 * 128 + (e : ℕ)) = _; omega)) _ _)
  all_goals pointwise

theorem pay42_at (v : FVec Ideal S128x128 .f32) (i a : Fin 128) : k0_pay42 (F := Ideal) (k0_pay38 v) (ix2 i a) = v (ix2 i a) := by
  pointwise [k0_pay42, k0_pay38]

theorem pay20_at (v : FVec Ideal S128x128 .f32) (i a : Fin 128) : k0_pay20 (F := Ideal) v (ix2 i a) = v (ix2 i a) := by
  pointwise [k0_pay20, k0_pay16]

/-- The values that a point leaves. -/
theorem left_values (c : Dev nD) (t : Fin cfg0.N) (p : Fin 128) (hp : (p : ℕ) = t) (y : S128x256.Idx) :
    (outsAt0 m c t.val t.isLt).2.2.2.2.2.2.2 y = left (value (m ((c : Thread nD τ).loc main_arg1))) p y := by
  by_cases ht : t.val % 128 = 0
  case' pos => rw [outsAt0_A m c t ht]; frame_out; refine stores _ p _ _ [_] (fun i a => ?_) (fun i a => ?_) y
  case' neg => rw [outsAt0_B m c t ht]; frame_out; refine stores _ p _ _ [] (fun i a => ?_) (fun i a => ?_) y
  case' neg.refine_1 | pos.refine_1 =>
    refine (pay42_at _ _ _).trans (ldz m c t p hp 1408 (by omega) _ (fun a b => ?_) i a _ _ rfl
      (by show 1280 + (1 * 128 + (a : ℕ)) = _; omega))
  case' neg.refine_2 | pos.refine_2 =>
    refine (pay20_at _ _ _).trans (ldz m c t p hp 1280 (by omega) _ (fun a b => ?_) i a _ _ rfl
      (by show 1280 + (0 * 128 + (a : ℕ)) = _; omega))
  all_goals pointwise

/-- What the next point reads of what was left. -/
theorem before_eq (X : FVec Ideal S128x256 .bf16) (f : Fin 16384 → Fin 2 → Fin 128 → EReal) (p q : Fin 128) (hq : (p : ℕ) = q + 1)
    (hX : ∀ y, X y = left f q y) (g : Fin 2) (o : ℕ) (ho : o = 128 * g) (kp : FVec Ideal S128x128 .bf16)
    (hk : ∀ i a : Fin 128, kp (ix2 i a) = X (ix2 i ⟨o + a, by omega⟩)) (i a : Fin 128) :
    kp (ix2 i a) = around p (fun r => f r g a) ⟨i, by omega⟩ := by
  subst ho
  rw [hk i a, hX]
  unfold around
  rw [dif_neg (by dsimp only; omega)]
  exact left_eq f q _ _ g a (by show (p : ℕ) * 128 + i - 128 = 128 * q + i; omega) rfl

/-- Before the sequence there is nothing. -/
theorem before_zero (f : Fin 16384 → Fin 2 → Fin 128 → EReal) (p : Fin 128) (hp : (p : ℕ) = 0) (g : Fin 2) (kp : FVec Ideal S128x128 .bf16)
    (hk : ∀ i a : Fin 128, kp (ix2 i a) = 0) (i a : Fin 128) : kp (ix2 i a) = around p (fun r => f r g a) ⟨i, by omega⟩ := by
  rw [hk]
  unfold around
  rw [dif_pos (by dsimp only; omega)]

theorem band (c : Dev nD) (t : Fin cfg0.N) (p : Fin 128) (hp : (p : ℕ) = t) (R : Fin 512) (j : Fin 256) :
    k0_pay13 k0_pay10 (iota Kind.tc S512x256 32 [1] iota_S512x256_d1_w32)
        (Scalar.select (Scalar.cmpi CmpIPredicate.sgt (BitVec.ofNat 32 (grid0.coords t 0)) 0#32) 0#32 128#32) k0_pay11 k0_pay12 (ix2 R j) = 1#1
      ↔ (R : ℕ) % 128 < j ∧ (j : ℕ) ≤ R % 128 + 128 ∧ 128 ≤ (p : ℕ) * 128 + j := by
  rw [coord t, ← hp]
  exact band_at p R j

/-- A block of 128 of the staged columns, from column `o`. -/
structure Loaded (c : Dev nD) (t : Fin cfg0.N) (q : FVec Ideal S128x128 .f32) (o : ℕ) : Prop where
  out : ∃ inb, q = View.ld (iblk m c 1 t) (Rect.unit (s := S128x5632) ![0, o] S128x128.size inb)

theorem loaded (c : Dev nD) (t : Fin cfg0.N) (o : ℕ) (inb) :
    Loaded m c t (View.ld (iblk m c 1 t) (Rect.unit (s := S128x5632) ![0, o] S128x128.size inb)) o := ⟨⟨inb, rfl⟩⟩

theorem loaded_at {c : Dev nD} {t : Fin cfg0.N} {q : FVec Ideal S128x128 .f32} {o : ℕ} (h : Loaded m c t q o) (p : Fin 128) (hp : (p : ℕ) = t)
    (i e : Fin 128) (r : Fin 16384) (n : Fin 5632) (hr : (r : ℕ) = 128 * p + i) (hn : (n : ℕ) = o + e) :
    q (ix2 i e) = m ((c : Thread nD τ).loc main_arg1) (ix2 r n) := by
  obtain ⟨inb, rfl⟩ := h.out
  have ho : o + 128 ≤ 5632 := inb 1
  refine ldz m c t p hp o ho _ (fun a b => ?_) i e r n hr hn
  pointwise

theorem sunk (c : Dev nD) (t : Fin cfg0.N) (k : ℕ) (hk : k < 8) (inb) (h) :
    View.ld (iblk m c 0 t) (Rect.unit (s := S8) ![k] S1.size inb) (Shape.Idx.first h) = m ((c : Thread nD τ).loc main_arg0) (ix1 ⟨k, hk⟩) := by
  rw [← sinks_at m c t]
  pointwise

/-- What a point works with, from what it loads. -/
theorem point_of {c : Dev nD} {t : Fin cfg0.N} {p : Fin 128} (hp : (p : ℕ) = t) (g : Fin 2) {C S k v q0 q1 q2 q3 : FVec Ideal S128x128 .f32}
    {kp vp : FVec Ideal S128x128 .bf16} {s0 s1 s2 s3 : Elt Ideal .f32}
    (hC : ∀ i d : Fin 128, C (ix2 i d) = Ideal.cos (Rotary.angle (128 * p + i) (d % 64)))
    (hS : ∀ i d : Fin 128, S (ix2 i d)
      = if (d : ℕ) < 64 then -Ideal.sin (Rotary.angle (128 * p + i) (d % 64)) else Ideal.sin (Rotary.angle (128 * p + i) (d % 64)))
    (hk : Loaded m c t k (1024 + 128 * g)) (hv : Loaded m c t v (1280 + 128 * g)) (h0 : Loaded m c t q0 (512 * g))
    (h1 : Loaded m c t q1 (512 * g + 128)) (h2 : Loaded m c t q2 (512 * g + 256)) (h3 : Loaded m c t q3 (512 * g + 384))
    (hs0 : s0 = m ((c : Thread nD τ).loc main_arg0) (ix1 ⟨4 * g, by omega⟩))
    (hs1 : s1 = m ((c : Thread nD τ).loc main_arg0) (ix1 ⟨4 * g + 1, by omega⟩))
    (hs2 : s2 = m ((c : Thread nD τ).loc main_arg0) (ix1 ⟨4 * g + 2, by omega⟩))
    (hs3 : s3 = m ((c : Thread nD τ).loc main_arg0) (ix1 ⟨4 * g + 3, by omega⟩))
    (hkp : ∀ i a : Fin 128, kp (ix2 i a) = around p (fun r => key (m ((c : Thread nD τ).loc main_arg1)) r g a) ⟨i, by omega⟩)
    (hvp : ∀ i a : Fin 128, vp (ix2 i a) = around p (fun r => value (m ((c : Thread nD τ).loc main_arg1)) r g a) ⟨i, by omega⟩) :
    Point (m ((c : Thread nD τ).loc main_arg1)) (m ((c : Thread nD τ).loc main_arg0)) p g C S
      (k0_pay13 k0_pay10 (iota Kind.tc S512x256 32 [1] iota_S512x256_d1_w32)
        (Scalar.select (Scalar.cmpi CmpIPredicate.sgt (BitVec.ofNat 32 (grid0.coords t 0)) 0#32) 0#32 128#32) k0_pay11 k0_pay12)
      (k0_pay39 C S k kp) (k0_pay40 v vp) q0 q1 q2 q3 s0 s1 s2 s3 :=
  ⟨hC, hS, band c t p hp,
    keys_at _ hC hS (fun i e => loaded_at m hk p hp i e _ _ rfl (by dsimp only; omega)) hkp,
    values_at _ (fun i e => loaded_at m hv p hp i e _ _ rfl (by dsimp only; omega)) hvp,
    fun i e => loaded_at m h0 p hp i e _ _ rfl (by dsimp only),
    fun i e => loaded_at m h1 p hp i e _ _ rfl (by dsimp only),
    fun i e => loaded_at m h2 p hp i e _ _ rfl (by dsimp only),
    fun i e => loaded_at m h3 p hp i e _ _ rfl (by dsimp only), hs0, hs1, hs2, hs3⟩

set_option maxHeartbeats 400000 in
theorem pointA (c : Dev nD) (t : Fin cfg0.N) (p : Fin 128) (hp : (p : ℕ) = t) (ht : t.val % 128 = 0) (y : S128x2048.Idx) (r : Fin 16384) (n : Fin 1024)
    (hr : (r : ℕ) = 128 * p + (y 0 : Fin 128)) (hn : (n : ℕ) = (y 1 : Fin 2048)) :
    (outsAt0 m c t.val t.isLt).1 y = swa (m ((c : Thread nD τ).loc main_arg1)) (m ((c : Thread nD τ).loc main_arg0)) r n := by
  have C := cos_at m c t p hp _ _ _ _ rfl rfl rfl rfl
  have S := sin_at m c t p hp _ _ _ _ rfl rfl rfl rfl
  rw [outsAt0_A m c t ht]
  frame_out
  canon_tiles x h
  all_goals try (exfalso; omega)
  all_goals first
    | rw [pay54, pay48]
    | rw [pay53, pay48]
    | rw [pay52, pay48]
    | rw [pay49, pay48]
    | rw [pay35, pay29, pay17, pay18]
    | rw [pay34, pay29, pay17, pay18]
    | rw [pay31, pay29, pay17, pay18]
    | rw [pay30, pay29, pay17, pay18]
  all_goals first
    | (have hg : 512 ≤ (n : ℕ) := by omega
       refine head_at _ _ (point_of m hp 1 C S (loaded m c t _ _) (loaded m c t _ _) (loaded m c t _ _) (loaded m c t _ _) (loaded m c t _ _)
        (loaded m c t _ _) (sunk m c t _ _ _ _) (sunk m c t _ _ _ _) (sunk m c t _ _ _ _) (sunk m c t _ _ _ _) ?_ ?_)
        _ _ _ (fun i e => loaded_at m (loaded m c t _ _) p hp i e _ _ rfl (by dsimp only; omega)) x r n (by omega) (by omega))
    | refine head_at _ _ (point_of m hp 0 C S (loaded m c t _ _) (loaded m c t _ _) (loaded m c t _ _) (loaded m c t _ _) (loaded m c t _ _)
        (loaded m c t _ _) (sunk m c t _ _ _ _) (sunk m c t _ _ _ _) (sunk m c t _ _ _ _) (sunk m c t _ _ _ _) ?_ ?_)
        _ _ _ (fun i e => loaded_at m (loaded m c t _ _) p hp i e _ _ rfl (by dsimp only; omega)) x r n (by omega) (by omega)
  all_goals clear C S
  all_goals first
    | refine before_zero (key _) p (by omega) _ _ fun i a => ?_
    | refine before_zero (value _) p (by omega) _ _ fun i a => ?_
  all_goals try rw [View.readCov_skip _ _ _ _ _ (by rfl)]
  all_goals
    rw [View.readCov_fill _ _ _ _ _ (by decide)]
    pointwise [k0_pay1, k0_pay2]
set_option maxHeartbeats 400000 in
theorem pointB (c : Dev nD) (t : Fin cfg0.N) (p : Fin 128) (hp : (p : ℕ) = t) (ht : ¬ t.val % 128 = 0) (y : S128x2048.Idx) (r : Fin 16384) (n : Fin 1024)
    (hr : (r : ℕ) = 128 * p + (y 0 : Fin 128)) (hn : (n : ℕ) = (y 1 : Fin 2048)) :
    (outsAt0 m c t.val t.isLt).1 y = swa (m ((c : Thread nD τ).loc main_arg1)) (m ((c : Thread nD τ).loc main_arg0)) r n := by
  have C := cos_at m c t p hp _ _ _ _ rfl rfl rfl rfl
  have S := sin_at m c t p hp _ _ _ _ rfl rfl rfl rfl
  rw [outsAt0_B m c t ht]
  frame_out
  canon_tiles x h
  all_goals try (exfalso; omega)
  all_goals first
    | rw [pay54, pay48]
    | rw [pay53, pay48]
    | rw [pay52, pay48]
    | rw [pay49, pay48]
    | rw [pay35, pay29, pay17, pay18]
    | rw [pay34, pay29, pay17, pay18]
    | rw [pay31, pay29, pay17, pay18]
    | rw [pay30, pay29, pay17, pay18]
  all_goals first
    | (have hg : 512 ≤ (n : ℕ) := by omega
       refine head_at _ _ (point_of m hp 1 C S (loaded m c t _ _) (loaded m c t _ _) (loaded m c t _ _) (loaded m c t _ _) (loaded m c t _ _)
        (loaded m c t _ _) (sunk m c t _ _ _ _) (sunk m c t _ _ _ _) (sunk m c t _ _ _ _) (sunk m c t _ _ _ _) ?_ ?_)
        _ _ _ (fun i e => loaded_at m (loaded m c t _ _) p hp i e _ _ rfl (by dsimp only; omega)) x r n (by omega) (by omega))
    | refine head_at _ _ (point_of m hp 0 C S (loaded m c t _ _) (loaded m c t _ _) (loaded m c t _ _) (loaded m c t _ _) (loaded m c t _ _)
        (loaded m c t _ _) (sunk m c t _ _ _ _) (sunk m c t _ _ _ _) (sunk m c t _ _ _ _) (sunk m c t _ _ _ _) ?_ ?_)
        _ _ _ (fun i e => loaded_at m (loaded m c t _ _) p hp i e _ _ rfl (by dsimp only; omega)) x r n (by omega) (by omega)
  all_goals clear C S
  all_goals first
    | refine before_eq _ (key _) p ⟨t - 1, by omega⟩ (by dsimp only; omega) (left_keys m c ⟨t - 1, by omega⟩ _ rfl) _ 128 rfl _ fun i a => ?_
    | refine before_eq _ (key _) p ⟨t - 1, by omega⟩ (by dsimp only; omega) (left_keys m c ⟨t - 1, by omega⟩ _ rfl) _ 0 rfl _ fun i a => ?_
    | refine before_eq _ (value _) p ⟨t - 1, by omega⟩ (by dsimp only; omega) (left_values m c ⟨t - 1, by omega⟩ _ rfl) _ 128 rfl _ fun i a => ?_
    | refine before_eq _ (value _) p ⟨t - 1, by omega⟩ (by dsimp only; omega) (left_values m c ⟨t - 1, by omega⟩ _ rfl) _ 0 rfl _ fun i a => ?_
  all_goals
    pointwise
    exact congrFun (Idealize.ShloMosaic.read_unread_whole _ _ _) _

/-- The result block of a point, at the columns of the attention over the window. -/
theorem point (c : Dev nD) (t : Fin cfg0.N) (y : S128x2048.Idx) (r : Fin 16384) (n : Fin 1024)
    (hr : (r : ℕ) = t * 128 + (y 0 : Fin 128)) (hn : (n : ℕ) = (y 1 : Fin 2048)) :
    (outsAt0 m c t.val t.isLt).1 y = swa (m ((c : Thread nD τ).loc main_arg1)) (m ((c : Thread nD τ).loc main_arg0)) r n := by
  have hN : t.val < 128 := lt_of_lt_of_eq t.isLt N_0
  by_cases ht : t.val % 128 = 0
  · exact pointA m c t ⟨t, hN⟩ rfl ht y r n (by dsimp only; omega) hn
  · exact pointB m c t ⟨t, hN⟩ rfl ht y r n (by dsimp only; omega) hn

/-- The result array after the run, at the columns of the attention over the window. -/
theorem final (c : Dev nD) (r : Fin 16384) (l : Fin 2048) (n : Fin 1024) (hn : (n : ℕ) = l) :
    (dats m 0 c).arrAt 7 (cfgs 0).N (ix2 r l) = swa (m ((c : Thread nD τ).loc main_arg1)) (m ((c : Thread nD τ).loc main_arg0)) r n := by
  refine ((dats m 0 c).arrAt_forall_of_covers 7 (fun i v => ∀ (r : Fin 16384) (n : Fin 1024), (i 0 : ℕ) = r → (i 1 : ℕ) = n →
    v = swa (m ((c : Thread nD τ).loc main_arg1)) (m ((c : Thread nD τ).loc main_arg0)) r n)
    (by decide +kernel) (fun t hf y r n hr hn => ?_) (ix2 r l)) r n rfl hn.symm
  blk_simp [Whole.idx t] at hr hn
  blk_simp
  rw [after0_7]
  exact point m c t _ r n (by omega) (by omega)

theorem pay36_at (c s k : FVec Ideal S128x128 .f32) (x : S128x128.Idx) : k0_pay36 (F := Ideal) c s k x = rot c s k (x 0) (x 1) := by
  idx_vars x
  show _ = rot c s k x0 x1
  pointwise [k0_pay36, rot]

theorem pay14_at' (c s k : FVec Ideal S128x128 .f32) (x : S128x128.Idx) : k0_pay14 (F := Ideal) c s k x = rot c s k (x 0) (x 1) := by
  idx_vars x
  show _ = rot c s k x0 x1
  pointwise [k0_pay14, rot]

theorem key_congr (z : FVec Ideal S16384x5632 .f32) {r r' : Fin 16384} {g g' : Fin 2} {a a' : Fin 128} (hr : (r : ℕ) = r') (hg : (g : ℕ) = g')
    (ha : (a : ℕ) = a') : key z r g a = key z r' g' a' := by
  rw [Fin.ext hr, Fin.ext hg, Fin.ext ha]

/-- The keys of the last window after the run. -/
theorem final_k (c : Dev nD) (a : Fin 128) (b : Fin 256) :
    (dats m 0 c).arrAt 8 (cfgs 0).N (ix2 a b)
      = key (m ((c : Thread nD τ).loc main_arg1)) ⟨16256 + a, by omega⟩ ⟨b / 128, by omega⟩ ⟨b % 128, by omega⟩ := by
  refine ((dats m 0 c).arrAt_forall_of_covers 8 (fun i v => ∀ (a : Fin 128) (b : Fin 256), (i 0 : ℕ) = a → (i 1 : ℕ) = b →
    v = key (m ((c : Thread nD τ).loc main_arg1)) ⟨16256 + a, by omega⟩ ⟨b / 128, by omega⟩ ⟨b % 128, by omega⟩)
    (by decide +kernel) (fun t hf y a b ha hb => ?_) (ix2 a b)) a b rfl rfl
  have ht := (flush0_8 t).mp hf
  have hN : t.val < 128 := lt_of_lt_of_eq t.isLt N_0
  have C := cos_at m c t ⟨t, hN⟩ rfl _ _ _ _ rfl rfl rfl rfl
  have S := sin_at m c t ⟨t, hN⟩ rfl _ _ _ _ rfl rfl rfl rfl
  blk_simp [Whole.idx t] at ha hb
  blk_simp
  rw [after0_8, outsAt0_B m c t (by omega)]
  frame_out
  canon_tiles x h
  case' piece0 =>
    refine (pay36_at _ _ _ x).trans ((key_at (g := 1) (t := ⟨t, hN⟩) _ C S
      (fun i e => loaded_at m (loaded m c t _ _) ⟨t, hN⟩ rfl i e _ _ rfl (by dsimp only; omega)) _ _).trans (key_congr _ ?_ ?_ ?_))
  case' piece1 =>
    refine (pay14_at' _ _ _ x).trans ((key_at (g := 0) (t := ⟨t, hN⟩) _ C S
      (fun i e => loaded_at m (loaded m c t _ _) ⟨t, hN⟩ rfl i e _ _ rfl (by dsimp only; omega)) _ _).trans (key_congr _ ?_ ?_ ?_))
  all_goals (dsimp only; omega)

end Cert.MixIdeal.Window
end
-- ==== Proof.MixSwa.lean ====
module

public import proofs.«01_k».proof.Proof.MixPoint
public import Idealize.ShloMosaic.Lib.Tactic.WordOmega
public import proofs.«01_k».proof.Proof.MixTerm

@[expose] public section

set_option maxRecDepth 16384

/-! The reference of the mixers, read at an index of the attention over the window and of the key cache. -/

noncomputable section
open Idealize.ShloMosaic Idealize.ShloMosaic.TcCoe Idealize.SL.Sem
namespace Cert.MixReferenceIdeal.Term
open Cert.MixReferenceIdeal Cert.MixReferenceIdeal.Gen
open Cert.MixIdeal.Window (query key value around score swa z_congr)

/-- The angle of every position and lane. -/
def angles : FVec Ideal S16384x64 .f32 :=
  mulf (broadcastInDim S16384x64 ![0, 1] bcast_S16384x1_S16384x64_0_1 (broadcastInDim S16384x1 ![0] bcast_S16384_S16384x1_0 (sitofp .f32 (iotaInDim S16384 32 0)))) (broadcastInDim S16384x64 ![0, 1] bcast_S1x64_S16384x64_0_1 (broadcastInDim S1x64 ![1] bcast_S64_S1x64_1 (Host.powf (broadcastInDim S64 ![] bcast_S_S64 (constant S_ .f32 0x461C4000#32)) (Host.negf (Host.divf (mulf (sitofp .f32 (iotaInDim S64 32 0)) (broadcastInDim S64 ![] bcast_S_S64 (constant S_ .f32 0x40000000#32))) (broadcastInDim S64 ![] bcast_S_S64 (constant S_ .f32 0x43000000#32)))))))

def cosines : FVec Ideal S16384x1x64 .f32 := broadcastInDim S16384x1x64 ![0, 2] bcast_S16384x64_S16384x1x64_0_2 (Host.cos angles)

def sines : FVec Ideal S16384x1x64 .f32 := broadcastInDim S16384x1x64 ![0, 2] bcast_S16384x64_S16384x1x64_0_2 (Host.sin angles)

/-- The queries, keys, values and gates among the columns. -/
def queries (z : FVec Ideal S16384x5632 .f32) : FVec Ideal S16384x8x128 .f32 :=
  shapeCast _ (extractStridedSlice S16384x1024 ![0, 0] (extractStridedSlice S16384x2560 ![0, 0] z slices_S16384x5632_S16384x2560_0_0) slices_S16384x2560_S16384x1024_0_0) shapeCasts_S16384x1024_S16384x8x128

def keys (z : FVec Ideal S16384x5632 .f32) : FVec Ideal S16384x2x128 .f32 :=
  shapeCast _ (extractStridedSlice S16384x256 ![0, 1024] (extractStridedSlice S16384x2560 ![0, 0] z slices_S16384x5632_S16384x2560_0_0) slices_S16384x2560_S16384x256_0_1024) shapeCasts_S16384x256_S16384x2x128

def values (z : FVec Ideal S16384x5632 .f32) : FVec Ideal S16384x2x128 .f32 :=
  shapeCast _ (extractStridedSlice S16384x256 ![0, 1280] (extractStridedSlice S16384x2560 ![0, 0] z slices_S16384x5632_S16384x2560_0_0) slices_S16384x2560_S16384x256_0_1280) shapeCasts_S16384x256_S16384x2x128

def gates (z : FVec Ideal S16384x5632 .f32) : FVec Ideal S16384x1024 .f32 :=
  extractStridedSlice S16384x1024 ![0, 1536] (extractStridedSlice S16384x2560 ![0, 0] z slices_S16384x5632_S16384x2560_0_0) slices_S16384x2560_S16384x1024_0_1536

/-- The queries and the keys at their positions. -/
def turnedQ (q : FVec Ideal S16384x8x128 .f32) : FVec Ideal S16384x8x128 .f32 :=
  concatenate S16384x8x128 2 [⟨S16384x8x64, (subf (mulf (extractStridedSlice S16384x8x64 ![0, 0, 0] q slices_S16384x8x128_S16384x8x64_0_0_0) (broadcastInDim S16384x8x64 ![0, 1, 2] bcast_S16384x1x64_S16384x8x64_0_1_2 cosines)) (mulf (extractStridedSlice S16384x8x64 ![0, 0, 64] q slices_S16384x8x128_S16384x8x64_0_0_64) (broadcastInDim S16384x8x64 ![0, 1, 2] bcast_S16384x1x64_S16384x8x64_0_1_2 sines)))⟩, ⟨S16384x8x64, (addf (mulf (extractStridedSlice S16384x8x64 ![0, 0, 64] q slices_S16384x8x128_S16384x8x64_0_0_64) (broadcastInDim S16384x8x64 ![0, 1, 2] bcast_S16384x1x64_S16384x8x64_0_1_2 cosines)) (mulf (extractStridedSlice S16384x8x64 ![0, 0, 0] q slices_S16384x8x128_S16384x8x64_0_0_0) (broadcastInDim S16384x8x64 ![0, 1, 2] bcast_S16384x1x64_S16384x8x64_0_1_2 sines)))⟩] concatenates_S16384x8x64_S16384x8x64_S16384x8x128_d2

def turnedK (k : FVec Ideal S16384x2x128 .f32) : FVec Ideal S16384x2x128 .f32 :=
  concatenate S16384x2x128 2 [⟨S16384x2x64, (subf (mulf (extractStridedSlice S16384x2x64 ![0, 0, 0] k slices_S16384x2x128_S16384x2x64_0_0_0) (broadcastInDim S16384x2x64 ![0, 1, 2] bcast_S16384x1x64_S16384x2x64_0_1_2 cosines)) (mulf (extractStridedSlice S16384x2x64 ![0, 0, 64] k slices_S16384x2x128_S16384x2x64_0_0_64) (broadcastInDim S16384x2x64 ![0, 1, 2] bcast_S16384x1x64_S16384x2x64_0_1_2 sines)))⟩, ⟨S16384x2x64, (addf (mulf (extractStridedSlice S16384x2x64 ![0, 0, 64] k slices_S16384x2x128_S16384x2x64_0_0_64) (broadcastInDim S16384x2x64 ![0, 1, 2] bcast_S16384x1x64_S16384x2x64_0_1_2 cosines)) (mulf (extractStridedSlice S16384x2x64 ![0, 0, 0] k slices_S16384x2x128_S16384x2x64_0_0_0) (broadcastInDim S16384x2x64 ![0, 1, 2] bcast_S16384x1x64_S16384x2x64_0_1_2 sines)))⟩] concatenates_S16384x2x64_S16384x2x64_S16384x2x128_d2

/-- Every block of rows after the block before it. -/
def blocks (a : FVec Ideal S16384x2x128 .f32) : FVec Ideal S128x256x2x128 .f32 :=
  concatenate S128x256x2x128 1 [⟨S128x128x2x128, (shapeCast _ (concatenate S16384x2x128 0 [⟨S128x2x128, (broadcastInDim S128x2x128 ![] bcast_S_S128x2x128 (constant S_ .f32 0x00000000#32))⟩, ⟨S16256x2x128, (extractStridedSlice S16256x2x128 ![0, 0, 0] a slices_S16384x2x128_S16256x2x128_0_0_0)⟩] concatenates_S128x2x128_S16256x2x128_S16384x2x128_d0) shapeCasts_S16384x2x128_S128x128x2x128)⟩, ⟨S128x128x2x128, (shapeCast _ a shapeCasts_S16384x2x128_S128x128x2x128)⟩] concatenates_S128x128x2x128_S128x128x2x128_S128x256x2x128_d1

/-- How far a key is before a query. -/
def ahead : IVec S128x128x256 32 :=
  subi (addi (iotaInDim S128x128x256 32 1) (broadcastInDim S128x128x256 ![] bcast_S_S128x128x256 (constantI S_ 32 128#32))) (iotaInDim S128x128x256 32 2)

/-- The keys that a query sees. -/
def seen : IVec S128x128x256 1 :=
  andi (andi (cmpi .sge ahead (broadcastInDim S128x128x256 ![] bcast_S_S128x128x256 (constantI S_ 32 0#32))) (cmpi .slt ahead (broadcastInDim S128x128x256 ![] bcast_S_S128x128x256 (constantI S_ 32 128#32)))) (cmpi .sge (addi (subi (muli (iotaInDim S128x128x256 32 0) (broadcastInDim S128x128x256 ![] bcast_S_S128x128x256 (constantI S_ 32 128#32))) (broadcastInDim S128x128x256 ![] bcast_S_S128x128x256 (constantI S_ 32 128#32))) (iotaInDim S128x128x256 32 2)) (broadcastInDim S128x128x256 ![] bcast_S_S128x128x256 (constantI S_ 32 0#32)))

def windowed (q : FVec Ideal S16384x8x128 .f32) (k : FVec Ideal S16384x2x128 .f32) : FVec Ideal S128x2x4x128x256 .f32 :=
  select (broadcastInDim S128x2x4x128x256 ![0, 1, 2, 3, 4] bcast_S128x1x1x128x256_S128x2x4x128x256_0_1_2_3_4 (broadcastInDim S128x1x1x128x256 ![0, 3, 4] bcast_S128x128x256_S128x1x1x128x256_0_3_4 seen)) (mulf (transpose S128x2x4x128x256 [0, 1, 4, 3, 2] (Host.dotGeneral dot_S128x256x2x128_S128x128x2x4x128_S128x2x256x128x4_3_4_1_13_02_02 none (blocks k) (shapeCast _ q shapeCasts_S16384x8x128_S128x128x2x4x128)) transposes_S128x2x256x128x4_S128x2x4x128x256_0_1_4_3_2) (broadcastInDim S128x2x4x128x256 ![] bcast_S_S128x2x4x128x256 (constant S_ .f32 0x3DB504F3#32))) (broadcastInDim S128x2x4x128x256 ![] bcast_S_S128x2x4x128x256 (id (constant S_ .f32 0xFF800000#32)))

def sunk (sk : FVec Ideal S8 .f32) : FVec Ideal S1x2x4x1x1 .f32 :=
  broadcastInDim S1x2x4x1x1 ![1, 2] bcast_S2x4_S1x2x4x1x1_1_2 (shapeCast _ sk shapeCasts_S8_S2x4)

def largest (s : FVec Ideal S128x2x4x128x256 .f32) (k : FVec Ideal S1x2x4x1x1 .f32) : FVec Ideal S128x2x4x128x1 .f32 :=
  maximumf (broadcastInDim S128x2x4x128x1 ![0, 1, 2, 3] bcast_S128x2x4x128_S128x2x4x128x1_0_1_2_3 (Host.reduce FloatOps.maximumf s (constant S_ .f32 0xFF800000#32) reducesTo_S128x2x4x128x256_S128x2x4x128_d4 h_S_)) (broadcastInDim S128x2x4x128x1 ![0, 1, 2, 3, 4] bcast_S1x2x4x1x1_S128x2x4x128x1_0_1_2_3_4 k)

def powers (s : FVec Ideal S128x2x4x128x256 .f32) (m : FVec Ideal S128x2x4x128x1 .f32) : FVec Ideal S128x2x4x128x256 .f32 :=
  Host.exp (subf s (broadcastInDim S128x2x4x128x256 ![0, 1, 2, 3, 4] bcast_S128x2x4x128x1_S128x2x4x128x256_0_1_2_3_4 m))

def averaged (v : FVec Ideal S16384x2x128 .f32) (p : FVec Ideal S128x2x4x128x256 .f32) (k : FVec Ideal S1x2x4x1x1 .f32) (m : FVec Ideal S128x2x4x128x1 .f32) : FVec Ideal S16384x1024 .f32 :=
  shapeCast _ (transpose S128x128x2x4x128 [0, 4, 1, 3, 2] (Host.dotGeneral dot_S128x256x2x128_S128x2x4x128x256_S128x2x128x4x128_1_4_3_23_02_01 none (blocks v) (Host.divf p (broadcastInDim S128x2x4x128x256 ![0, 1, 2, 3, 4] bcast_S128x2x4x128x1_S128x2x4x128x256_0_1_2_3_4 (addf (broadcastInDim S128x2x4x128x1 ![0, 1, 2, 3] bcast_S128x2x4x128_S128x2x4x128x1_0_1_2_3 (Host.reduceAdd p (constant S_ .f32 0x00000000#32) reducesTo_S128x2x4x128x256_S128x2x4x128_d4 h_S_)) (Host.exp (subf (broadcastInDim S128x2x4x128x1 ![0, 1, 2, 3, 4] bcast_S1x2x4x1x1_S128x2x4x128x1_0_1_2_3_4 k) m)))))) transposes_S128x2x128x4x128_S128x128x2x4x128_0_4_1_3_2) shapeCasts_S128x128x2x4x128_S16384x1024

def opened (g : FVec Ideal S16384x1024 .f32) : FVec Ideal S16384x1024 .f32 :=
  mulf g (Host.divf (broadcastInDim S16384x1024 ![] bcast_S_S16384x1024 (constant S_ .f32 0x3F800000#32)) (addf (broadcastInDim S16384x1024 ![] bcast_S_S16384x1024 (constant S_ .f32 0x3F800000#32)) (Host.exp (Host.negf g))))

/-- The columns of the attention over the window. -/
def slid (z : FVec Ideal S16384x5632 .f32) (sk : FVec Ideal S8 .f32) : FVec Ideal S16384x1024 .f32 :=
  mulf (averaged (values z) (powers (windowed (turnedQ (queries z)) (turnedK (keys z))) (largest (windowed (turnedQ (queries z)) (turnedK (keys z))) (sunk sk)))
    (sunk sk) (largest (windowed (turnedQ (queries z)) (turnedK (keys z))) (sunk sk))) (opened (gates z))

/-- The key cache. -/
def cachedK (z : FVec Ideal S16384x5632 .f32) : FVec Ideal S128x256 .f32 :=
  shapeCast _ (extractStridedSlice S128x2x128 ![16256, 0, 0] (turnedK (keys z)) slices_S16384x2x128_S128x2x128_16256_0_0) shapeCasts_S128x2x128_S128x256

theorem cosines_at (r : Fin 16384) (d : Fin 64) : cosines (ix3 r 0 d) = Ideal.cos (Rotary.angle r d) := by
  pointwise [cosines, angles]
  rfl

theorem sines_at (r : Fin 16384) (d : Fin 64) : sines (ix3 r 0 d) = Ideal.sin (Rotary.angle r d) := by
  pointwise [sines, angles]
  rfl

theorem queries_at (z : FVec Ideal S16384x5632 .f32) (r : Fin 16384) (h : Fin 8) (a : Fin 128) :
    queries z (ix3 r h a) = z (ix2 r ⟨h * 128 + a, by omega⟩) := by
  pointwise [queries]

theorem keys_at (z : FVec Ideal S16384x5632 .f32) (r : Fin 16384) (h : Fin 2) (a : Fin 128) :
    keys z (ix3 r h a) = z (ix2 r ⟨1024 + (h * 128 + a), by omega⟩) := by
  pointwise [keys]

theorem values_at (z : FVec Ideal S16384x5632 .f32) (r : Fin 16384) (h : Fin 2) (a : Fin 128) :
    values z (ix3 r h a) = z (ix2 r ⟨1280 + (h * 128 + a), by omega⟩) := by
  pointwise [values]

/-- A vector turned half by half. -/
theorem turned_if (f : Fin 128 → EReal) (r : ℕ) (a : Fin 128) :
    (if h : (a : ℕ) < 64 then f a * Ideal.cos (Rotary.angle r a) - f ⟨64 + a, by omega⟩ * Ideal.sin (Rotary.angle r a)
      else f ⟨64 + (a - 64), by omega⟩ * Ideal.cos (Rotary.angle r (a - 64)) + f ⟨a - 64, by omega⟩ * Ideal.sin (Rotary.angle r (a - 64)))
      = Rotary.turned f r a := by
  unfold Rotary.turned
  split_ifs with h
  · rw [sub_eq_add_neg, ← mul_neg, show (a : ℕ) % 64 = a by omega,
      show (⟨(a + 64) % 128, by omega⟩ : Fin 128) = ⟨64 + a, by omega⟩ from Fin.ext (by dsimp only; omega)]
  · rw [show (a : ℕ) % 64 = a - 64 by omega, show (⟨64 + (a - 64), by omega⟩ : Fin 128) = a from Fin.ext (by dsimp only; omega),
      show (⟨(a + 64) % 128, by omega⟩ : Fin 128) = ⟨a - 64, by omega⟩ from Fin.ext (by dsimp only; omega)]

theorem turnedQ_at (q : FVec Ideal S16384x8x128 .f32) (r : Fin 16384) (h : Fin 8) (a : Fin 128) :
    turnedQ q (ix3 r h a) = Rotary.turned (fun e => q (ix3 r h e)) r a := by
  pointwise [turnedQ]
  simp only [cosines_at, sines_at]
  exact turned_if (fun e => q (ix3 r h e)) r a

theorem turnedK_at (k : FVec Ideal S16384x2x128 .f32) (r : Fin 16384) (h : Fin 2) (a : Fin 128) :
    turnedK k (ix3 r h a) = Rotary.turned (fun e => k (ix3 r h e)) r a := by
  pointwise [turnedK]
  simp only [cosines_at, sines_at]
  exact turned_if (fun e => k (ix3 r h e)) r a

theorem blocks_at (a : FVec Ideal S16384x2x128 .f32) (t : Fin 128) (j : Fin 256) (g : Fin 2) (e : Fin 128) :
    blocks a (ix4 t j g e) = around t (fun r => a (ix3 r g e)) j := by
  pointwise [blocks]
  by_cases h : (j : ℕ) < 128
  · rw [dif_pos h]
    rfl
  · unfold around
    rw [dif_neg h, dif_neg (show ¬ (t : ℕ) * 128 + j < 128 by omega)]
    exact congrArg (fun r => a (ix3 r g e)) (Fin.ext (show (t : ℕ) * 128 + (j - 128) = t * 128 + j - 128 by omega))

theorem seen_at (t i : Fin 128) (j : Fin 256) : seen (ix3 t i j) = 1#1 ↔ (i : ℕ) < j ∧ (j : ℕ) ≤ i + 128 ∧ 128 ≤ (t : ℕ) * 128 + j := by
  have h : ∀ t : Fin 128, IntOp.muli (BitVec.ofNat 32 t) 128#32 = BitVec.ofNat 32 (t * 128) := by decide +kernel
  have hs : ∀ a b : BitVec 32, IntOp.subi a b = a - b := fun _ _ => rfl
  pointwise [seen, ahead]
  rw [h]
  simp only [hs]
  word_omega

theorem windowed_at (q : FVec Ideal S16384x8x128 .f32) (k : FVec Ideal S16384x2x128 .f32) (t : Fin 128) (g : Fin 2) (h : Fin 4) (i : Fin 128) (j : Fin 256) :
    windowed q k (ix5 t g h i j) = if seen (ix3 t i j) = 1#1
      then (∑ a : Fin 128, blocks k (ix4 t j g a) * q (ix3 ⟨t * 128 + i, by omega⟩ ⟨g * 4 + h, by omega⟩ a)) * Ideal.ofBits .f32 0x3DB504F3#32
      else Ideal.ofBits .f32 0xFF800000#32 := by
  pointwise [windowed]
  rfl

theorem sunk_at (sk : FVec Ideal S8 .f32) (g : Fin 2) (h : Fin 4) : sunk sk (ix5 0 g h 0 0) = sk (ix1 ⟨g * 4 + h, by omega⟩) := by
  pointwise [sunk]

theorem most (s : FVec Ideal S128x2x4x128x256 .f32) (t : Fin 128) (g : Fin 2) (h : Fin 4) (i : Fin 128) :
    Host.reduce FloatOps.maximumf s (constant S_ .f32 0xFF800000#32) reducesTo_S128x2x4x128x256_S128x2x4x128_d4 h_S_ (ix4 t g h i)
      = Attend.top (fun j : Fin 256 => s (ix5 t g h i j)) := by
  pointwise [Attend.top]

theorem lifted (x : FVec Ideal S128x2x4x128 .f32) (t : Fin 128) (g : Fin 2) (h : Fin 4) (i : Fin 128) :
    broadcastInDim S128x2x4x128x1 ![0, 1, 2, 3] bcast_S128x2x4x128_S128x2x4x128x1_0_1_2_3 x (ix5 t g h i 0) = x (ix4 t g h i) := by
  pointwise

theorem spread (k : FVec Ideal S1x2x4x1x1 .f32) (t : Fin 128) (g : Fin 2) (h : Fin 4) (i : Fin 128) :
    broadcastInDim S128x2x4x128x1 ![0, 1, 2, 3, 4] bcast_S1x2x4x1x1_S128x2x4x128x1_0_1_2_3_4 k (ix5 t g h i 0) = k (ix5 0 g h 0 0) := by
  pointwise

theorem max_at (a b : FVec Ideal S128x2x4x128x1 .f32) (x : S128x2x4x128x1.Idx) : maximumf a b x = max (a x) (b x) := rfl

theorem largest_at (s : FVec Ideal S128x2x4x128x256 .f32) (k : FVec Ideal S1x2x4x1x1 .f32) (t : Fin 128) (g : Fin 2) (h : Fin 4) (i : Fin 128) :
    largest s k (ix5 t g h i 0) = Attend.topS (fun j : Fin 256 => s (ix5 t g h i j)) (k (ix5 0 g h 0 0)) := by
  unfold largest Attend.topS
  exact (max_at _ _ _).trans (congrArg₂ max ((lifted _ t g h i).trans (most s t g h i)) (spread k t g h i))

theorem powers_at (s : FVec Ideal S128x2x4x128x256 .f32) (m : FVec Ideal S128x2x4x128x1 .f32) (t : Fin 128) (g : Fin 2) (h : Fin 4) (i : Fin 128) (j : Fin 256) :
    powers s m (ix5 t g h i j) = Ideal.exp (s (ix5 t g h i j) - m (ix5 t g h i 0)) := by
  pointwise [powers]

theorem averaged_at (v : FVec Ideal S16384x2x128 .f32) (p : FVec Ideal S128x2x4x128x256 .f32) (k : FVec Ideal S1x2x4x1x1 .f32) (m : FVec Ideal S128x2x4x128x1 .f32) (r : Fin 16384) (n : Fin 1024) :
    averaged v p k m (ix2 r n) = ∑ j : Fin 256, blocks v (ix4 ⟨r / 128, by omega⟩ j ⟨n / 512, by omega⟩ ⟨n % 128, by omega⟩)
      * Ideal.div (p (ix5 ⟨r / 128, by omega⟩ ⟨n / 512, by omega⟩ ⟨n / 128 % 4, by omega⟩ ⟨r % 128, by omega⟩ j))
        (∑ j : Fin 256, p (ix5 ⟨r / 128, by omega⟩ ⟨n / 512, by omega⟩ ⟨n / 128 % 4, by omega⟩ ⟨r % 128, by omega⟩ j)
          + Ideal.exp (k (ix5 0 ⟨n / 512, by omega⟩ ⟨n / 128 % 4, by omega⟩ 0 0)
            - m (ix5 ⟨r / 128, by omega⟩ ⟨n / 512, by omega⟩ ⟨n / 128 % 4, by omega⟩ ⟨r % 128, by omega⟩ 0))) := by
  pointwise [averaged]

theorem opened_at (g : FVec Ideal S16384x1024 .f32) (r : Fin 16384) (n : Fin 1024) : opened g (ix2 r n) = Attend.gate (g (ix2 r n)) := by
  pointwise [opened, Attend.gate]
  rw [sub_eq_add_neg, zero_add]

theorem gates_at (z : FVec Ideal S16384x5632 .f32) (r : Fin 16384) (n : Fin 1024) : gates z (ix2 r n) = z (ix2 r ⟨1536 + n, by omega⟩) := by
  pointwise [gates]

theorem joined_first (a : FVec Ideal S16384x1024 .f32) (b c : FVec Ideal S16384x512 .f32) (r : Fin 16384) (l : Fin 2048) (n : Fin 1024)
    (hn : (n : ℕ) = l) : joined a b c (ix2 r l) = a (ix2 r n) := by
  pointwise [joined]
  rw [dif_pos (by omega)]
  exact congrArg a (by idx_ext <;> omega)

theorem cachedK_at (z : FVec Ideal S16384x5632 .f32) (a : Fin 128) (b : Fin 256) :
    cachedK z (ix2 a b) = key z ⟨16256 + a, by omega⟩ ⟨b / 128, by omega⟩ ⟨b % 128, by omega⟩ := by
  refine Eq.trans (b := turnedK (keys z) (ix3 ⟨16256 + a, by omega⟩ ⟨b / 128, by omega⟩ ⟨b % 128, by omega⟩)) ?_ ?_
  · pointwise [cachedK]
  · exact (turnedK_at _ _ _ _).trans (Rotary.turned_congr (fun e => keys_at z _ _ e) rfl rfl)

/-- The reference's score of a query and a place of its window. -/
theorem score_at (z : FVec Ideal S16384x5632 .f32) (r : Fin 16384) (n : Fin 1024) (j : Fin 256) :
    windowed (turnedQ (queries z)) (turnedK (keys z))
      (ix5 ⟨r / 128, by omega⟩ ⟨n / 512, by omega⟩ ⟨n / 128 % 4, by omega⟩ ⟨r % 128, by omega⟩ j) = score z r n j := by
  rw [windowed_at]
  unfold score
  refine if_congr (seen_at _ _ _) (congrArg (· * _) (Finset.sum_congr rfl fun a _ => ?_)) rfl
  refine (mul_comm _ _).trans (congrArg₂ (· * ·) ?_ ?_)
  · refine (turnedQ_at _ _ _ _).trans (Rotary.turned_congr (fun e => (queries_at z _ _ e).trans (z_congr z ?_ ?_)) ?_ rfl)
    · dsimp only
      omega
    · dsimp only
      omega
    · dsimp only
      omega
  · exact (blocks_at _ _ _ _ _).trans (congrArg (fun f => around _ f j) (funext fun i =>
      (turnedK_at _ _ _ _).trans (Rotary.turned_congr (fun e => keys_at z i _ e) rfl rfl)))

theorem finite_neg {x : EReal} (h : Attend.Finite x) : Attend.Finite (-x) := by
  obtain ⟨a, rfl⟩ := h.exists
  rw [← EReal.coe_neg]
  exact Attend.Finite.coe _

theorem finite_cos (r n : ℕ) (hr : r < 2 ^ 31) : Attend.Finite (Ideal.cos (Rotary.angle r n)) := by
  obtain ⟨w, hw⟩ := Rotary.freq_real n
  unfold Rotary.angle
  rw [hw, Rotary.sitofp_ofNat r hr, ← EReal.coe_mul]
  exact Attend.Finite.coe _

theorem finite_sin (r n : ℕ) (hr : r < 2 ^ 31) : Attend.Finite (Ideal.sin (Rotary.angle r n)) := by
  obtain ⟨w, hw⟩ := Rotary.freq_real n
  unfold Rotary.angle
  rw [hw, Rotary.sitofp_ofNat r hr, ← EReal.coe_mul]
  exact Attend.Finite.coe _

theorem finite_turned (f : Fin 128 → EReal) (hf : ∀ e, Attend.Finite (f e)) (r : ℕ) (hr : r < 2 ^ 31) (a : Fin 128) :
    Attend.Finite (Rotary.turned f r a) := by
  unfold Rotary.turned
  refine ((hf _).mul (finite_cos _ _ hr)).add ((hf _).mul ?_)
  split_ifs
  · exact finite_neg (finite_sin _ _ hr)
  · exact finite_sin _ _ hr

theorem score_ne_top (z : FVec Ideal S16384x5632 .f32) (hz : ∀ i, Attend.Finite (z i)) (r : Fin 16384) (n : Fin 1024) (j : Fin 256) :
    score z r n j ≠ ⊤ := by
  unfold score
  split_ifs
  · refine ((Attend.Finite.sum fun a => Attend.Finite.mul (finite_turned _ (fun e => hz _) _ (by omega) _) ?_).mul scale_finite).1
    unfold around
    split_ifs
    · exact Attend.Finite.coe 0
    · exact finite_turned _ (fun e => hz _) _ (by dsimp only; omega) _
  · rw [Attend.neg_inf]
    exact bot_ne_top

/-- The columns of the attention over the window are the kernel's, the scores and the sinks being numbers. -/
theorem swa_at (z : FVec Ideal S16384x5632 .f32) (sk : FVec Ideal S8 .f32) (hz : ∀ i, Attend.Finite (z i)) (hk : ∀ i, Attend.Finite (sk i))
    (r : Fin 16384) (n : Fin 1024) : slid z sk (ix2 r n) = swa z sk r n := by
  unfold swa
  refine Eq.trans ?_ (Attend.outS_eq _ _ _ _ (score_ne_top z hz r n) (hk _)).symm
  refine congrArg₂ (· * ·) ((averaged_at _ _ _ _ _ _).trans ?_) ((opened_at _ _ _).trans (congrArg Attend.gate (gates_at z r n)))
  have hs : sunk sk (ix5 0 ⟨n / 512, by omega⟩ ⟨n / 128 % 4, by omega⟩ 0 0) = sk (ix1 ⟨n / 128, by omega⟩) :=
    (sunk_at _ _ _).trans (congrArg (fun k : Fin 8 => sk (ix1 k)) (Fin.ext (show (n : ℕ) / 512 * 4 + n / 128 % 4 = n / 128 by omega)))
  simp only [powers_at, largest_at, score_at, hs]
  refine Finset.sum_congr rfl fun j _ => congrArg (· * _) ?_
  exact (blocks_at _ _ _ _ _).trans (congrArg (fun f => around _ f j) (funext fun i => values_at z i _ _))

end Cert.MixReferenceIdeal.Term
end
-- ==== Proof.MixClaims.lean ====
module

public import proofs.«01_k».proof.Defs
public import proofs.«01_k».proof.Proof.MixTerm
public import proofs.«01_k».proof.Proof.MixSwa
public import proofs.«01_k».proof.Proof.Gen.Mix.Frame
public import proofs.«01_k».proof.Proof.Gen.Pre_finite
public import proofs.«01_k».proof.Proof.Gen.On_attention
public import Idealize.ShloMosaic.Lib.Quiescent
public import Idealize.ShloMosaic.Lib.Claim

@[expose] public section

set_option maxRecDepth 16384

/-! The claims about the mixers of the prompt. -/

noncomputable section
open Idealize.ShloMosaic Idealize.ShloMosaic.TcCoe Idealize.SL.Sem

namespace Cert.Attend

/-- The word of the comparison with infinity says that the number is one. -/
theorem Finite.of_olt {x : EReal} (h : FloatOps.cmpf (F := Ideal) (φ := .f32) .olt (FloatOps.hostAbsf (F := Ideal) (φ := .f32) x) (Ideal.ofBits .f32 0x7F800000#32) = 1#1) :
    Finite x := by
  have hinf : Ideal.ofBits .f32 0x7F800000#32 = ⊤ := by simp [Ideal.ofBits, Ideal.ieee]
  rw [hinf] at h
  constructor
  · rintro rfl
    simp [FloatOps.cmpf, FloatOps.hostAbsf, Ideal.cmp] at h
  · rintro rfl
    simp [FloatOps.cmpf, FloatOps.hostAbsf, Ideal.cmp] at h

end Cert.Attend

namespace Cert.On_attention

/-- The mask of the first result at an index: the window's columns and the memory's. -/
theorem first (x0 : FVec Ideal S8 .f32) (x1 : FVec Ideal S16384x5632 .f32) (x2 : FVec Ideal S16384x128 .f32)
    (x3 x4 : FVec Ideal S256x512 .bf16) (i : S16384x2048.Idx) (h : (fn x0 x1 x2 x3 x4).1 i = 1#1) :
    (i 1 : ℕ) < 1024 ∨ 1536 ≤ (i 1 : ℕ) := by
  have key : ∀ l < 2048, IntOp.ori (IntOp.cmpi .slt (BitVec.ofNat 32 l) 1024#32) (IntOp.cmpi .sge (BitVec.ofNat 32 l) 1536#32) = 1#1
      → l < 1024 ∨ 1536 ≤ l := by decide +kernel
  exact key _ (i 1).isLt h

end Cert.On_attention

namespace Cert.Proof.MixClaims
open Cert.MixIdeal

/-- The reference leaves its arguments as they are and has no semaphores. -/
theorem frame_reference : Cert.quiescent_MixReferenceIdeal := fun m ρ _ =>
  (θ_run Cert.MixReferenceIdeal.defs _ _).mono (fun r h => ⟨fun c => (h c).2.2.2, sem_eq_zero_of_no_sems (by decide) r.2⟩)
    (Cert.MixReferenceIdeal.Value.run (F := Ideal) m ρ)

variable {m : (ℓ : Loc nD τ sig) → Buf (Elt Ideal) ℓ}

/-- The sinks are numbers. -/
theorem finite_s (h : Cert.Pre_MixIdeal_finite m) (c : Dev nD) (i : S8.Idx) :
    Attend.Finite (m ((c.tc : Thread nD τ).loc main_arg0) i) :=
  Attend.Finite.of_olt (congrFun (h c).1 i)

/-- The columns are numbers. -/
theorem finite_z (h : Cert.Pre_MixIdeal_finite m) (c : Dev nD) (i : S16384x5632.Idx) :
    Attend.Finite (m ((c.tc : Thread nD τ).loc main_arg1) i) :=
  Attend.Finite.of_olt (congrFun (h c).2.1 i)

/-- The memory's keys are numbers. -/
theorem finite_k (h : Cert.Pre_MixIdeal_finite m) (c : Dev nD) (i : S256x512.Idx) :
    Attend.Finite (m ((c.tc : Thread nD τ).loc main_arg3) i) :=
  Attend.Finite.of_olt (congrFun (h c).2.2 i)

/-- Where the mask is set, kernel and reference end with the same numbers. -/
theorem algebraic : Cert.algebraic_MixIdeal_MixReferenceIdeal_on_attention_pre_finite := by
  intro m g m' g' hpre hagree
  refine ⟨fun c => (Gen.dats m 0 c).arrAt 7 (cfgs 0).N, fun c => (Gen.dats m 0 c).arrAt 8 (cfgs 0).N,
    fun c => (Gen.dats m 0 c).arrAt 9 (cfgs 0).N, ?_, ?_⟩
  · refine (θ_run defs _ _).mono (fun r h c => ⟨fun i _ => ?_, fun i _ => ?_, fun i _ => ?_, h.2 c⟩)
      (θ_run_and (Gen.run_main m g) (Gen.unchanged m g))
    · exact congrFun ((h.1 c).1 7) i
    · exact congrFun ((h.1 c).1 8) i
    · exact congrFun ((h.1 c).1 9) i
  · refine (θ_run Cert.MixReferenceIdeal.defs _ _).mono (fun r h c => ⟨fun i hi => ?_, fun i hi => ?_, fun i hi => ?_, (h c).2.2.2⟩)
      (Cert.MixReferenceIdeal.Value.run (F := Ideal) m' g')
    · have hl := Cert.On_attention.first _ _ _ _ _ i hi
      idx_vars i
      have hl' : (i1 : ℕ) < 1024 ∨ 1536 ≤ (i1 : ℕ) := hl
      have hi1 : (i1 : ℕ) < 2048 := i1.isLt
      have hs : m' ((c.tc : Thread Cert.MixReferenceIdeal.nD Cert.MixReferenceIdeal.τ).loc Cert.MixReferenceIdeal.main_arg0)
          = m ((c.tc : Thread nD τ).loc main_arg0) := (hagree c).1
      have hz : m' ((c.tc : Thread Cert.MixReferenceIdeal.nD Cert.MixReferenceIdeal.τ).loc Cert.MixReferenceIdeal.main_arg1)
          = m ((c.tc : Thread nD τ).loc main_arg1) := (hagree c).2.1
      have hk : m' ((c.tc : Thread Cert.MixReferenceIdeal.nD Cert.MixReferenceIdeal.τ).loc Cert.MixReferenceIdeal.main_arg3)
          = m ((c.tc : Thread nD τ).loc main_arg3) := (hagree c).2.2.2.1
      have hv : m' ((c.tc : Thread Cert.MixReferenceIdeal.nD Cert.MixReferenceIdeal.τ).loc Cert.MixReferenceIdeal.main_arg4)
          = m ((c.tc : Thread nD τ).loc main_arg4) := (hagree c).2.2.2.2
      rcases hl' with hl' | hl'
      · refine Eq.trans ?_ (Window.final m c i0 i1 ⟨i1, hl'⟩ rfl).symm
        refine (congrFun (h c).1 (ix2 i0 i1)).trans ?_
        refine (Cert.MixReferenceIdeal.Term.joined_first (Cert.MixReferenceIdeal.Term.slid
          (m' ((c.tc : Thread Cert.MixReferenceIdeal.nD Cert.MixReferenceIdeal.τ).loc Cert.MixReferenceIdeal.main_arg1))
          (m' ((c.tc : Thread Cert.MixReferenceIdeal.nD Cert.MixReferenceIdeal.τ).loc Cert.MixReferenceIdeal.main_arg0))) _ _
          i0 i1 ⟨i1, hl'⟩ rfl).trans ?_
        rw [hz, hs]
        exact Cert.MixReferenceIdeal.Term.swa_at _ _ (finite_z hpre c) (finite_s hpre c) i0 _
      · have hn : (i1 : ℕ) = 1536 + ((⟨(i1 : ℕ) - 1536, by omega⟩ : Fin 512) : ℕ) := (Nat.add_sub_cancel' hl').symm
        refine Eq.trans ?_ (Whole.final m c i0 i1 _ hn).symm
        refine (congrFun (h c).1 (ix2 i0 i1)).trans ?_
        refine (Cert.MixReferenceIdeal.Term.joined_at _ _ (Cert.MixReferenceIdeal.Term.remembered
          (m' ((c.tc : Thread Cert.MixReferenceIdeal.nD Cert.MixReferenceIdeal.τ).loc Cert.MixReferenceIdeal.main_arg1))
          (m' ((c.tc : Thread Cert.MixReferenceIdeal.nD Cert.MixReferenceIdeal.τ).loc Cert.MixReferenceIdeal.main_arg3))
          (m' ((c.tc : Thread Cert.MixReferenceIdeal.nD Cert.MixReferenceIdeal.τ).loc Cert.MixReferenceIdeal.main_arg4)))
          i0 i1 _ hn).trans ?_
        rw [hz, hk, hv]
        exact Cert.MixReferenceIdeal.Term.mem_at _ _ _ (finite_z hpre c) (finite_k hpre c) i0 _
    · idx_vars i
      refine Eq.trans ?_ (Window.final_k m c i0 i1).symm
      refine (congrFun (h c).2.1 (ix2 i0 i1)).trans ?_
      refine (Cert.MixReferenceIdeal.Term.cachedK_at
        (m' ((c.tc : Thread Cert.MixReferenceIdeal.nD Cert.MixReferenceIdeal.τ).loc Cert.MixReferenceIdeal.main_arg1)) i0 i1).trans ?_
      exact congrArg (fun z => Window.key z _ _ _) (hagree c).2.1
    · idx_vars i
      refine Eq.trans ?_ (Whole.final_v m c i0 i1).symm
      refine (congrFun (h c).2.2.1 (ix2 i0 i1)).trans ?_
      refine (Cert.MixReferenceIdeal.Term.cached_at
        (m' ((c.tc : Thread Cert.MixReferenceIdeal.nD Cert.MixReferenceIdeal.τ).loc Cert.MixReferenceIdeal.main_arg1)) i0 i1).trans ?_
      exact congrFun (hagree c).2.1 _

end Cert.Proof.MixClaims
end
-- ==== Proof.ProjSkeleton.lean ====
module

public import proofs.«01_k».proof.Proof.Gen.KernelIdeal

@[expose] public section

set_option synthInstance.maxSize 4096

noncomputable section

namespace Cert.KernelIdeal.Proj

open Cert.KernelIdeal Cert.KernelIdeal.Gen Idealize.ShloMosaic Idealize.SL.Sem

variable {F : FTy → Type} [FloatOps F]
/-! ## `cc0_proj` -/

/-- `%93 = arith.addf %89, %92 : vector<1024x128xf32>` of `cc0_proj`, from the values read before
   it. Read by `tpu.vector_store %arg9[%c0_42, %c0_43], %93`. -/
noncomputable def k0_pay1 (v89 : FVec F S1024x128 .f32) (v90 : Vec F S1x128 .f32) : FVec F S1024x128 .f32 :=
  have v91 : FVec F S1x128 .f32 := shapeCast S1x128 v90 shapeCasts_S1x128_S1x128
  have v92 : FVec F S1024x128 .f32 := broadcastTo S1024x128 v91 broadcasts_S1x128_S1024x128
  have v93 : FVec F S1024x128 .f32 := addf v89 v92
  v93

/-- `%10 = arith.addf %6, %9 : vector<1024x512xf32>` of `cc0_proj`, from the values read before it.
   Read by `tpu.vector_store %arg8[%c0_6, %c0_7], %10`. -/
noncomputable def k0_pay2 (v3 : Vec F S1024x2048 .bf16) (v4 : Vec F S2048x512 .bf16) (v7 : Vec F S1x512 .f32) : FVec F S1024x512 .f32 :=
  have v5 : FVec F S2048x512 .bf16 := shapeCast S2048x512 v4 shapeCasts_S2048x512_S2048x512
  have cst : FVec F S1024x512 .f32 := constant S1024x512 .f32 0x00000000#32
  have v6 : FVec F S1024x512 .f32 := matmul dot_S1024x2048_S2048x512_S1024x512_1_0_0_1_n_n none v3 v5 cst
  have v8 : FVec F S1x512 .f32 := shapeCast S1x512 v7 shapeCasts_S1x512_S1x512
  have v9 : FVec F S1024x512 .f32 := broadcastTo S1024x512 v8 broadcasts_S1x512_S1024x512
  have v10 : FVec F S1024x512 .f32 := addf v6 v9
  v10

/-- `%13 = vector.shape_cast %12 : vector<1x2048xf32> to vector<1x2048xf32>` of `k0_part1`, from the
   values read before it. Read by the loop's rebinding, condition or exit; `k0_pay4`, `k0_pay5`. -/
noncomputable def k0_pay3 (v12 : Vec F S1x2048 .f32) : FVec F S1x2048 .f32 :=
  have v13 : FVec F S1x2048 .f32 := shapeCast S1x2048 v12 shapeCasts_S1x2048_S1x2048
  v13

/-- `%31 = vector.shape_cast %28 : vector<256x2048xbf16> to vector<256x2048xbf16>` of `k0_part1`,
   from the values read before it. Read by `tpu.vector_store %arg10[%c0_15, %c0_16], %31`. -/
noncomputable def k0_pay4 (v12 : Vec F S1x2048 .f32) (v14 : Vec F S256x2048 .f32) : FVec F S256x2048 .bf16 :=
  have v15 : FVec F S256x2048 .f32 := shapeCast S256x2048 v14 shapeCasts_S256x2048_S256x2048
  have v16 : FVec F S256x2048 .f32 := mulf v15 v15
  have v17 : FVec F S256 .f32 := multiReduction .add [1] S256 v16 0x00000000#32 reduces_S256x2048_S256 (.inl rfl) rfl
  have v18 : FVec F S256x1 .f32 := shapeCast S256x1 v17 shapeCasts_S256_S256x1
  have cst_13 : F .f32 := Scalar.ofBits .f32 0x45000000#32
  have v19 : FVec F S256x1 .f32 := broadcast S256x1 cst_13
  have v20 : FVec F S256x1 .f32 := divf v18 v19
  have cst_14 : F .f32 := Scalar.ofBits .f32 0x358637BD#32
  have v21 : FVec F S256x1 .f32 := broadcast S256x1 cst_14
  have v22 : FVec F S256x1 .f32 := addf v20 v21
  have v23 : FVec F S256x1 .f32 := rsqrt v22
  have v24 : FVec F S256x2048 .f32 := broadcastTo S256x2048 v23 broadcasts_S256x1_S256x2048
  have v25 : FVec F S256x2048 .f32 := mulf v15 v24
  have v26 : FVec F S256x2048 .f32 := broadcastTo S256x2048 (k0_pay3 v12) broadcasts_S1x2048_S256x2048
  have v27 : FVec F S256x2048 .f32 := mulf v25 v26
  have v28 : FVec F S256x2048 .bf16 := truncf .bf16 v27 bitsLt_bf16_f32
  have v31 : FVec F S256x2048 .bf16 := shapeCast S256x2048 v28 shapeCasts_S256x2048_S256x2048
  v31

/-- `%49 = vector.shape_cast %46 : vector<256x2048xbf16> to vector<256x2048xbf16>` of `k0_part1`,
   from the values read before it. Read by `tpu.vector_store %arg10[%c256_21, %c0_22], %49`. -/
noncomputable def k0_pay5 (v12 : Vec F S1x2048 .f32) (v32 : Vec F S256x2048 .f32) : FVec F S256x2048 .bf16 :=
  have v33 : FVec F S256x2048 .f32 := shapeCast S256x2048 v32 shapeCasts_S256x2048_S256x2048
  have v34 : FVec F S256x2048 .f32 := mulf v33 v33
  have v35 : FVec F S256 .f32 := multiReduction .add [1] S256 v34 0x00000000#32 reduces_S256x2048_S256 (.inl rfl) rfl
  have v36 : FVec F S256x1 .f32 := shapeCast S256x1 v35 shapeCasts_S256_S256x1
  have cst_19 : F .f32 := Scalar.ofBits .f32 0x45000000#32
  have v37 : FVec F S256x1 .f32 := broadcast S256x1 cst_19
  have v38 : FVec F S256x1 .f32 := divf v36 v37
  have cst_20 : F .f32 := Scalar.ofBits .f32 0x358637BD#32
  have v39 : FVec F S256x1 .f32 := broadcast S256x1 cst_20
  have v40 : FVec F S256x1 .f32 := addf v38 v39
  have v41 : FVec F S256x1 .f32 := rsqrt v40
  have v42 : FVec F S256x2048 .f32 := broadcastTo S256x2048 v41 broadcasts_S256x1_S256x2048
  have v43 : FVec F S256x2048 .f32 := mulf v33 v42
  have v44 : FVec F S256x2048 .f32 := broadcastTo S256x2048 (k0_pay3 v12) broadcasts_S1x2048_S256x2048
  have v45 : FVec F S256x2048 .f32 := mulf v43 v44
  have v46 : FVec F S256x2048 .bf16 := truncf .bf16 v45 bitsLt_bf16_f32
  have v49 : FVec F S256x2048 .bf16 := shapeCast S256x2048 v46 shapeCasts_S256x2048_S256x2048
  v49

/-- `%51 = vector.shape_cast %50 : vector<256x2048xf32> to vector<256x2048xf32>` of `k0_part1`, from
   the values read before it. Read by the loop's rebinding, condition or exit. -/
noncomputable def k0_pay6 (v50 : Vec F S256x2048 .f32) : FVec F S256x2048 .f32 :=
  have v51 : FVec F S256x2048 .f32 := shapeCast S256x2048 v50 shapeCasts_S256x2048_S256x2048
  v51

/-- `%67 = vector.shape_cast %64 : vector<256x2048xbf16> to vector<256x2048xbf16>` of `k0_part2`,
   from the values read before it. Read by `tpu.vector_store %arg10[%c512_27, %c0_28], %67`. -/
noncomputable def k0_pay7 (v13 : FVec F S1x2048 .f32) (v51 : FVec F S256x2048 .f32) : FVec F S256x2048 .bf16 :=
  have v52 : FVec F S256x2048 .f32 := mulf v51 v51
  have v53 : FVec F S256 .f32 := multiReduction .add [1] S256 v52 0x00000000#32 reduces_S256x2048_S256 (.inl rfl) rfl
  have v54 : FVec F S256x1 .f32 := shapeCast S256x1 v53 shapeCasts_S256_S256x1
  have cst_25 : F .f32 := Scalar.ofBits .f32 0x45000000#32
  have v55 : FVec F S256x1 .f32 := broadcast S256x1 cst_25
  have v56 : FVec F S256x1 .f32 := divf v54 v55
  have cst_26 : F .f32 := Scalar.ofBits .f32 0x358637BD#32
  have v57 : FVec F S256x1 .f32 := broadcast S256x1 cst_26
  have v58 : FVec F S256x1 .f32 := addf v56 v57
  have v59 : FVec F S256x1 .f32 := rsqrt v58
  have v60 : FVec F S256x2048 .f32 := broadcastTo S256x2048 v59 broadcasts_S256x1_S256x2048
  have v61 : FVec F S256x2048 .f32 := mulf v51 v60
  have v62 : FVec F S256x2048 .f32 := broadcastTo S256x2048 v13 broadcasts_S1x2048_S256x2048
  have v63 : FVec F S256x2048 .f32 := mulf v61 v62
  have v64 : FVec F S256x2048 .bf16 := truncf .bf16 v63 bitsLt_bf16_f32
  have v67 : FVec F S256x2048 .bf16 := shapeCast S256x2048 v64 shapeCasts_S256x2048_S256x2048
  v67

/-- `%85 = vector.shape_cast %82 : vector<256x2048xbf16> to vector<256x2048xbf16>` of `k0_part2`,
   from the values read before it. Read by `tpu.vector_store %arg10[%c768_33, %c0_34], %85`. -/
noncomputable def k0_pay8 (v13 : FVec F S1x2048 .f32) (v68 : Vec F S256x2048 .f32) : FVec F S256x2048 .bf16 :=
  have v69 : FVec F S256x2048 .f32 := shapeCast S256x2048 v68 shapeCasts_S256x2048_S256x2048
  have v70 : FVec F S256x2048 .f32 := mulf v69 v69
  have v71 : FVec F S256 .f32 := multiReduction .add [1] S256 v70 0x00000000#32 reduces_S256x2048_S256 (.inl rfl) rfl
  have v72 : FVec F S256x1 .f32 := shapeCast S256x1 v71 shapeCasts_S256_S256x1
  have cst_31 : F .f32 := Scalar.ofBits .f32 0x45000000#32
  have v73 : FVec F S256x1 .f32 := broadcast S256x1 cst_31
  have v74 : FVec F S256x1 .f32 := divf v72 v73
  have cst_32 : F .f32 := Scalar.ofBits .f32 0x358637BD#32
  have v75 : FVec F S256x1 .f32 := broadcast S256x1 cst_32
  have v76 : FVec F S256x1 .f32 := addf v74 v75
  have v77 : FVec F S256x1 .f32 := rsqrt v76
  have v78 : FVec F S256x2048 .f32 := broadcastTo S256x2048 v77 broadcasts_S256x1_S256x2048
  have v79 : FVec F S256x2048 .f32 := mulf v69 v78
  have v80 : FVec F S256x2048 .f32 := broadcastTo S256x2048 v13 broadcasts_S1x2048_S256x2048
  have v81 : FVec F S256x2048 .f32 := mulf v79 v80
  have v82 : FVec F S256x2048 .bf16 := truncf .bf16 v81 bitsLt_bf16_f32
  have v85 : FVec F S256x2048 .bf16 := shapeCast S256x2048 v82 shapeCasts_S256x2048_S256x2048
  v85

/-- `%89 = tpu.matmul %86, %88, %cst_39 {dimension_numbers = #tpu.dot_dimension_numbers<[1], [0],
   [0], [1], [0, 0, 1, 1], [], []>, transpose_lhs_hint = false} : vector<1024x2048xbf16>,
   vector<2048x128xbf16>, vector<1024x128xf32> -> vector<1024x128xf32>` of `k0_part2`, from the
   values read before it. Read by the loop's rebinding, condition or exit. -/
noncomputable def k0_pay9 (v86 : Vec F S1024x2048 .bf16) (v87 : Vec F S2048x128 .bf16) : FVec F S1024x128 .f32 :=
  have v88 : FVec F S2048x128 .bf16 := shapeCast S2048x128 v87 shapeCasts_S2048x128_S2048x128
  have cst_39 : FVec F S1024x128 .f32 := constant S1024x128 .f32 0x00000000#32
  have v89 : FVec F S1024x128 .f32 := matmul dot_S1024x2048_S2048x128_S1024x128_1_0_0_1_n_n none v86 v88 cst_39
  v89

/-- `cc0_proj` as a skeleton of memory operations over payloads. -/
noncomputable def cc0_proj_skel (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1x512 .f32) (harg5 : arg5.IsWhole) (arg6 : Memref sig .tc .vmem S2048x128 .bf16) (harg6 : arg6.IsWhole) (arg7 : Memref sig .tc .vmem S1x128 .f32) (harg7 : arg7.IsWhole) (arg8 : Memref sig .tc .vmem S1024x512 .f32) (harg8 : arg8.IsWhole) (arg9 : Memref sig .tc .vmem S1024x128 .f32) (harg9 : arg9.IsWhole) (arg10 : Memref sig .tc .vmem S1024x2048 .bf16) (harg10 : arg10.IsWhole) :
    Prog (TpuEff nD τ sig (Elt F) Λ₀ .tc) PUnit := do
  if k0_h1 : k0_cond1 i = 1#1 then do
    let ⟨v13, v51⟩ : Σ' (v13 : FVec F S1x2048 .f32), FVec F S256x2048 .f32 ← k0_part1 i arg2 harg2 arg3 harg3 arg4 harg4 arg5 harg5 arg6 harg6 arg7 harg7 arg8 harg8 arg9 harg9 arg10 harg10
    let ⟨v89, v90⟩ : Σ' (v89 : FVec F S1024x128 .f32), Vec F S1x128 .f32 ← k0_part2 i arg2 harg2 arg3 harg3 arg4 harg4 arg5 harg5 arg6 harg6 arg7 harg7 arg8 harg8 arg9 harg9 arg10 harg10 v13 v51
    let v94 : Vec F S1024x128 .f32 ← Prog.lift (.load arg9 (Rect.unit (s := S1024x128) ![0, 0] S1024x128.size inb_S1024x128_S1024x128_0_0).toLoadRect (View.loadsAt_vmem h_S1024x128))
    Prog.lift (.store arg9 (Rect.unit (s := S1024x128) ![0, 0] S1024x128.size inb_S1024x128_S1024x128_0_0) (k0_pay1 v89 v90) Finset.univ (View.stores_vmem_bits_univ h_S1024x128 rfl) (.inl rfl))
    pure ⟨⟩
  else do
    pure ⟨⟩
  let v3 : Vec F S1024x2048 .bf16 ← Prog.lift (.load arg10 (Rect.unit (s := S1024x2048) ![0, 0] S1024x2048.size inb_S1024x2048_S1024x2048_0_0).toLoadRect (View.loadsAt_vmem h_S1024x2048))
  let v4 : Vec F S2048x512 .bf16 ← Prog.lift (.load arg4 (Rect.unit (s := S2048x512) ![0, 0] S2048x512.size inb_S2048x512_S2048x512_0_0).toLoadRect (View.loadsAt_vmem h_S2048x512))
  let v7 : Vec F S1x512 .f32 ← Prog.lift (.load arg5 (Rect.unit (s := S1x512) ![0, 0] S1x512.size inb_S1x512_S1x512_0_0).toLoadRect (View.loadsAt_vmem h_S1x512))
  let v11 : Vec F S1024x512 .f32 ← Prog.lift (.load arg8 (Rect.unit (s := S1024x512) ![0, 0] S1024x512.size inb_S1024x512_S1024x512_0_0).toLoadRect (View.loadsAt_vmem h_S1024x512))
  Prog.lift (.store arg8 (Rect.unit (s := S1024x512) ![0, 0] S1024x512.size inb_S1024x512_S1024x512_0_0) (k0_pay2 v3 v4 v7) Finset.univ (View.stores_vmem_bits_univ h_S1024x512 rfl) (.inl rfl))
  pure ⟨⟩

set_option maxRecDepth 65536 in
/-- The printed `cc0_proj` is its skeleton: by definitional unfolding. -/
theorem cc0_proj_eq_skeleton : cc0_proj (F := F) = cc0_proj_skel (F := F) := rfl

/-- `k0_part1` as a skeleton of memory operations over payloads. -/
noncomputable def k0_part1_skel (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1x512 .f32) (harg5 : arg5.IsWhole) (arg6 : Memref sig .tc .vmem S2048x128 .bf16) (harg6 : arg6.IsWhole) (arg7 : Memref sig .tc .vmem S1x128 .f32) (harg7 : arg7.IsWhole) (arg8 : Memref sig .tc .vmem S1024x512 .f32) (harg8 : arg8.IsWhole) (arg9 : Memref sig .tc .vmem S1024x128 .f32) (harg9 : arg9.IsWhole) (arg10 : Memref sig .tc .vmem S1024x2048 .bf16) (harg10 : arg10.IsWhole) :
    Prog (TpuEff nD τ sig (Elt F) Λ₀ .tc) (Σ' (v13 : FVec F S1x2048 .f32), FVec F S256x2048 .f32) := do
  let v12 : Vec F S1x2048 .f32 ← Prog.lift (.load arg3 (Rect.unit (s := S1x2048) ![0, 0] S1x2048.size inb_S1x2048_S1x2048_0_0).toLoadRect (View.loadsAt_vmem h_S1x2048))
  let v14 : Vec F S256x2048 .f32 ← Prog.lift (.load arg2 (Rect.unit (s := S1024x2048) ![0, 0] S256x2048.size inb_S1024x2048_S256x2048_0_0).toLoadRect (View.loadsAt_vmem h_S256x2048))
  let v29 : Vec F S256x2048 .bf16 ← Prog.lift (.load arg10 (Rect.unit (s := S1024x2048) ![0, 0] S256x2048.size inb_S1024x2048_S256x2048_0_0).toLoadRect (View.loadsAt_vmem h_S256x2048))
  Prog.lift (.store arg10 (Rect.unit (s := S1024x2048) ![0, 0] S256x2048.size inb_S1024x2048_S256x2048_0_0) (k0_pay4 v12 v14) Finset.univ (View.stores_vmem h_S256x2048 (harg10.storeExact_slice rfl _ packedbf16_S1024x2048_S256x2048_0_0) (fun _ => rfl)) (.inl rfl))
  let v32 : Vec F S256x2048 .f32 ← Prog.lift (.load arg2 (Rect.unit (s := S1024x2048) ![256, 0] S256x2048.size inb_S1024x2048_S256x2048_256_0).toLoadRect (View.loadsAt_vmem h_S256x2048))
  let v47 : Vec F S256x2048 .bf16 ← Prog.lift (.load arg10 (Rect.unit (s := S1024x2048) ![256, 0] S256x2048.size inb_S1024x2048_S256x2048_256_0).toLoadRect (View.loadsAt_vmem h_S256x2048))
  Prog.lift (.store arg10 (Rect.unit (s := S1024x2048) ![256, 0] S256x2048.size inb_S1024x2048_S256x2048_256_0) (k0_pay5 v12 v32) Finset.univ (View.stores_vmem h_S256x2048 (harg10.storeExact_slice rfl _ packedbf16_S1024x2048_S256x2048_256_0) (fun _ => rfl)) (.inl rfl))
  let v50 : Vec F S256x2048 .f32 ← Prog.lift (.load arg2 (Rect.unit (s := S1024x2048) ![512, 0] S256x2048.size inb_S1024x2048_S256x2048_512_0).toLoadRect (View.loadsAt_vmem h_S256x2048))
  pure ⟨k0_pay3 v12, k0_pay6 v50⟩

set_option maxRecDepth 65536 in
/-- The printed `k0_part1` is its skeleton: by definitional unfolding. -/
theorem k0_part1_eq_skeleton : k0_part1 (F := F) = k0_part1_skel (F := F) := rfl

/-- `k0_part2` as a skeleton of memory operations over payloads. -/
noncomputable def k0_part2_skel (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1x512 .f32) (harg5 : arg5.IsWhole) (arg6 : Memref sig .tc .vmem S2048x128 .bf16) (harg6 : arg6.IsWhole) (arg7 : Memref sig .tc .vmem S1x128 .f32) (harg7 : arg7.IsWhole) (arg8 : Memref sig .tc .vmem S1024x512 .f32) (harg8 : arg8.IsWhole) (arg9 : Memref sig .tc .vmem S1024x128 .f32) (harg9 : arg9.IsWhole) (arg10 : Memref sig .tc .vmem S1024x2048 .bf16) (harg10 : arg10.IsWhole) (v13 : FVec F S1x2048 .f32) (v51 : FVec F S256x2048 .f32) :
    Prog (TpuEff nD τ sig (Elt F) Λ₀ .tc) (Σ' (v89 : FVec F S1024x128 .f32), Vec F S1x128 .f32) := do
  let v65 : Vec F S256x2048 .bf16 ← Prog.lift (.load arg10 (Rect.unit (s := S1024x2048) ![512, 0] S256x2048.size inb_S1024x2048_S256x2048_512_0).toLoadRect (View.loadsAt_vmem h_S256x2048))
  Prog.lift (.store arg10 (Rect.unit (s := S1024x2048) ![512, 0] S256x2048.size inb_S1024x2048_S256x2048_512_0) (k0_pay7 v13 v51) Finset.univ (View.stores_vmem h_S256x2048 (harg10.storeExact_slice rfl _ packedbf16_S1024x2048_S256x2048_512_0) (fun _ => rfl)) (.inl rfl))
  let v68 : Vec F S256x2048 .f32 ← Prog.lift (.load arg2 (Rect.unit (s := S1024x2048) ![768, 0] S256x2048.size inb_S1024x2048_S256x2048_768_0).toLoadRect (View.loadsAt_vmem h_S256x2048))
  let v83 : Vec F S256x2048 .bf16 ← Prog.lift (.load arg10 (Rect.unit (s := S1024x2048) ![768, 0] S256x2048.size inb_S1024x2048_S256x2048_768_0).toLoadRect (View.loadsAt_vmem h_S256x2048))
  Prog.lift (.store arg10 (Rect.unit (s := S1024x2048) ![768, 0] S256x2048.size inb_S1024x2048_S256x2048_768_0) (k0_pay8 v13 v68) Finset.univ (View.stores_vmem h_S256x2048 (harg10.storeExact_slice rfl _ packedbf16_S1024x2048_S256x2048_768_0) (fun _ => rfl)) (.inl rfl))
  let v86 : Vec F S1024x2048 .bf16 ← Prog.lift (.load arg10 (Rect.unit (s := S1024x2048) ![0, 0] S1024x2048.size inb_S1024x2048_S1024x2048_0_0).toLoadRect (View.loadsAt_vmem h_S1024x2048))
  let v87 : Vec F S2048x128 .bf16 ← Prog.lift (.load arg6 (Rect.unit (s := S2048x128) ![0, 0] S2048x128.size inb_S2048x128_S2048x128_0_0).toLoadRect (View.loadsAt_vmem h_S2048x128))
  let v90 : Vec F S1x128 .f32 ← Prog.lift (.load arg7 (Rect.unit (s := S1x128) ![0, 0] S1x128.size inb_S1x128_S1x128_0_0).toLoadRect (View.loadsAt_vmem h_S1x128))
  pure ⟨k0_pay9 v86 v87, v90⟩

set_option maxRecDepth 65536 in
/-- The printed `k0_part2` is its skeleton: by definitional unfolding. -/
theorem k0_part2_eq_skeleton : k0_part2 (F := F) = k0_part2_skel (F := F) := rfl

end Cert.KernelIdeal.Proj

end
-- ==== Proof.ProjRun.lean ====
module

public import proofs.«01_k».proof.Proof.Gen.KernelIdeal.Frame
public import proofs.«01_k».proof.Proof.ProjSkeleton

@[expose] public section

set_option maxRecDepth 16384

noncomputable section

/-! The run of the in-projection's body.  The first grid point of a row of blocks normalises the row's block of
the input into the carried scratch and stores the gate columns; every point stores its block of the main
columns, the product of the scratch with the point's block of the weights. -/

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The blocks the body reads and writes -/

abbrev rows0 : Rect S1024x2048 := Rect.unit (s := S1024x2048) ![0, 0] S256x2048.size inb_S1024x2048_S256x2048_0_0
abbrev rows1 : Rect S1024x2048 := Rect.unit (s := S1024x2048) ![256, 0] S256x2048.size inb_S1024x2048_S256x2048_256_0
abbrev rows2 : Rect S1024x2048 := Rect.unit (s := S1024x2048) ![512, 0] S256x2048.size inb_S1024x2048_S256x2048_512_0
abbrev rows3 : Rect S1024x2048 := Rect.unit (s := S1024x2048) ![768, 0] S256x2048.size inb_S1024x2048_S256x2048_768_0
abbrev wholeU : Rect S1024x2048 := Rect.unit (s := S1024x2048) ![0, 0] S1024x2048.size inb_S1024x2048_S1024x2048_0_0
abbrev wholeScale : Rect S1x2048 := Rect.unit (s := S1x2048) ![0, 0] S1x2048.size inb_S1x2048_S1x2048_0_0
abbrev wholeW : Rect S2048x512 := Rect.unit (s := S2048x512) ![0, 0] S2048x512.size inb_S2048x512_S2048x512_0_0
abbrev wholeB : Rect S1x512 := Rect.unit (s := S1x512) ![0, 0] S1x512.size inb_S1x512_S1x512_0_0
abbrev wholeWG : Rect S2048x128 := Rect.unit (s := S2048x128) ![0, 0] S2048x128.size inb_S2048x128_S2048x128_0_0
abbrev wholeBG : Rect S1x128 := Rect.unit (s := S1x128) ![0, 0] S1x128.size inb_S1x128_S1x128_0_0
abbrev wholeZ : Rect S1024x512 := Rect.unit (s := S1024x512) ![0, 0] S1024x512.size inb_S1024x512_S1024x512_0_0
abbrev wholeZG : Rect S1024x128 := Rect.unit (s := S1024x128) ![0, 0] S1024x128.size inb_S1024x128_S1024x128_0_0

/-- The normalised block: four groups of rows, the last stored first in the list. -/
def normed (x : Vec F S1024x2048 .f32) (g : Vec F S1x2048 .f32) : Vec F S1024x2048 .bf16 :=
  View.canon [⟨rows3, k0_pay8 (k0_pay3 (View.ld g wholeScale)) (View.ld x rows3)⟩,
    ⟨rows2, k0_pay7 (k0_pay3 (View.ld g wholeScale)) (k0_pay6 (View.ld x rows2))⟩,
    ⟨rows1, k0_pay5 (View.ld g wholeScale) (View.ld x rows1)⟩,
    ⟨rows0, k0_pay4 (View.ld g wholeScale) (View.ld x rows0)⟩]

/-- The gate columns of a normalised block. -/
def gates (u : Vec F S1024x2048 .bf16) (w : Vec F S2048x128 .bf16) (b : Vec F S1x128 .f32) : Vec F S1024x128 .f32 :=
  View.canon [⟨wholeZG, k0_pay1 (k0_pay9 (View.ld u wholeU) (View.ld w wholeWG)) (View.ld b wholeBG)⟩]

/-- A block of main columns of a normalised block. -/
def cols (u : Vec F S1024x2048 .bf16) (w : Vec F S2048x512 .bf16) (b : Vec F S1x512 .f32) : Vec F S1024x512 .f32 :=
  View.canon [⟨wholeZ, k0_pay2 (View.ld u wholeU) (View.ld w wholeW) (View.ld b wholeB)⟩]

/-- The four groups of rows fill the block. -/
theorem cover_normed (p0 p1 p2 p3 : Vec F S256x2048 .bf16) (y : S1024x2048.Idx) :
    ∃ pc ∈ ([⟨rows3, p3⟩, ⟨rows2, p2⟩, ⟨rows1, p1⟩, ⟨rows0, p0⟩] : List (View.Piece (Elt F) S1024x2048 .bf16)), y ∈ pc.1.set :=
  View.cover_of_tiled [⟨rows3, p3⟩, ⟨rows2, p2⟩, ⟨rows1, p1⟩, ⟨rows0, p0⟩] S256x2048.size (by rfl) y

/-- One store fills the block of gate columns. -/
theorem cover_gates (p : Vec F S1024x128 .f32) (y : S1024x128.Idx) :
    ∃ pc ∈ ([⟨wholeZG, p⟩] : List (View.Piece (Elt F) S1024x128 .f32)), y ∈ pc.1.set :=
  View.cover_of_tiled [⟨wholeZG, p⟩] S1024x128.size (by rfl) y

/-- One store fills the block of main columns. -/
theorem cover_cols (p : Vec F S1024x512 .f32) (y : S1024x512.Idx) :
    ∃ pc ∈ ([⟨wholeZ, p⟩] : List (View.Piece (Elt F) S1024x512 .f32)), y ∈ pc.1.set :=
  View.cover_of_tiled [⟨wholeZ, p⟩] S1024x512.size (by rfl) y

/-- Loading the whole of what the four groups of rows left is loading the normalised block. -/
theorem load_normed (v : View sig .tc .vmem S1024x2048 .bf16) (p0 p1 p2 p3 : Vec F S256x2048 .bf16) :
    v.readCov [⟨rows3, p3⟩, ⟨rows2, p2⟩, ⟨rows1, p1⟩, ⟨rows0, p0⟩] wholeU.toLoadRect
      = View.ld (Val := Elt F) (View.canon [⟨rows3, p3⟩, ⟨rows2, p2⟩, ⟨rows1, p1⟩, ⟨rows0, p0⟩]) wholeU :=
  View.readCov_eq_canon v _ _ fun j => cover_normed p0 p1 p2 p3 _

/-- The main columns from any spelling of the loaded block. -/
theorem cols_eq (u : Vec F S1024x2048 .bf16) (w : Vec F S2048x512 .bf16) (b : Vec F S1x512 .f32) (l : Vec F S1024x2048 .bf16)
    (h : l = View.ld u wholeU) : View.canon [⟨wholeZ, k0_pay2 l (View.ld w wholeW) (View.ld b wholeB)⟩] = cols u w b := by
  subst h; rfl

/-- The gate columns from any spelling of the loaded block. -/
theorem gates_eq (u : Vec F S1024x2048 .bf16) (w : Vec F S2048x128 .bf16) (b : Vec F S1x128 .f32) (l : Vec F S1024x2048 .bf16)
    (h : l = View.ld u wholeU) : View.canon [⟨wholeZG, k0_pay1 (k0_pay9 l (View.ld w wholeWG)) (View.ld b wholeBG)⟩] = gates u w b := by
  subst h; rfl

/-! ## The two cases of the body -/

set_option maxHeartbeats 1000000 in
/-- The first point of a row of blocks: the scratch is left at the normalised block, both outputs are stored. -/
theorem run_first (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1x512 .f32) (harg5 : arg5.IsWhole)
    (arg6 : Memref sig .tc .vmem S2048x128 .bf16) (harg6 : arg6.IsWhole) (arg7 : Memref sig .tc .vmem S1x128 .f32) (harg7 : arg7.IsWhole) (arg8 : Memref sig .tc .vmem S1024x512 .f32) (harg8 : arg8.IsWhole) (arg9 : Memref sig .tc .vmem S1024x128 .f32) (harg9 : arg9.IsWhole) (arg10 : Memref sig .tc .vmem S1024x2048 .bf16) (harg10 : arg10.IsWhole)
    (hc : k0_cond1 i = 1#1) (x0 : Vec F S1024x2048 .f32) (x1 : Vec F S1x2048 .f32) (x2 : Vec F S2048x512 .bf16) (x3 : Vec F S1x512 .f32) (x4 : Vec F S2048x128 .bf16) (x5 : Vec F S1x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (cols (normed x0 x1) x2 x3) ∗ owns (c : Thread nD τ) arg9 fullShare (gates (normed x0 x1) x4 x5)
            ∗ owns (c : Thread nD τ) arg10 fullShare (normed x0 x1)) -∗ K ⟨⟩))
      ⊢ wp frame (wpE (defs₀ (F := F)) Variants.none c none) E (cc0_proj i arg2 harg2 arg3 harg3 arg4 harg4 arg5 harg5 arg6 harg6 arg7 harg7 arg8 harg8 arg9 harg9 arg10 harg10) K := by
  simp only [cc0_proj_eq_skeleton]; unfold cc0_proj_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec (disch := first | sl_exact hc)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr
    swap; · iexact H6
    ipureintro
    refine (View.read_writes_eq_canon _ _ _ (cover_cols _)).trans (cols_eq _ _ _ _ ?_)
    exact load_normed arg10.view _ _ _ _
  isplitl [H7]
  · iexists _; isplitr
    swap; · iexact H7
    ipureintro
    refine (View.read_writes_eq_canon _ _ _ (cover_gates _)).trans (gates_eq _ _ _ _ ?_)
    exact load_normed arg10.view _ _ _ _
  iexists _; isplitr
  swap; · iexact H8
  ipureintro
  exact View.read_writes_eq_canon _ _ _ (cover_normed _ _ _ _)

set_option maxHeartbeats 1000000 in
/-- Any other point: the scratch and the gate columns stay as they are, the main columns are stored. -/
theorem run_later (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1x512 .f32) (harg5 : arg5.IsWhole)
    (arg6 : Memref sig .tc .vmem S2048x128 .bf16) (harg6 : arg6.IsWhole) (arg7 : Memref sig .tc .vmem S1x128 .f32) (harg7 : arg7.IsWhole) (arg8 : Memref sig .tc .vmem S1024x512 .f32) (harg8 : arg8.IsWhole) (arg9 : Memref sig .tc .vmem S1024x128 .f32) (harg9 : arg9.IsWhole) (arg10 : Memref sig .tc .vmem S1024x2048 .bf16) (harg10 : arg10.IsWhole)
    (hc : ¬k0_cond1 i = 1#1) (x0 : Vec F S1024x2048 .f32) (x1 : Vec F S1x2048 .f32) (x2 : Vec F S2048x512 .bf16) (x3 : Vec F S1x512 .f32) (x4 : Vec F S2048x128 .bf16) (x5 : Vec F S1x128 .f32) (z : Vec F S1024x128 .f32) (u : Vec F S1024x2048 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare z ∗ owns (c : Thread nD τ) arg10 fullShare u
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (cols u x2 x3) ∗ owns (c : Thread nD τ) arg9 fullShare z
            ∗ owns (c : Thread nD τ) arg10 fullShare u) -∗ K ⟨⟩))
      ⊢ wp frame (wpE (defs₀ (F := F)) Variants.none c none) E (cc0_proj i arg2 harg2 arg3 harg3 arg4 harg4 arg5 harg5 arg6 harg6 arg7 harg7 arg8 harg8 arg9 harg9 arg10 harg10) K := by
  simp only [cc0_proj_eq_skeleton]; unfold cc0_proj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
  subst hf0 hf1 hf2 hf3 hf4 hf5 hf7 hf8
  sl_exec (disch := first | sl_exact hc)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr
    swap; · iexact H6
    ipureintro
    exact View.read_writes_eq_canon _ _ _ (cover_cols _)
  isplitl [H7]
  · iexists _; isplitr; · ipureintro; rfl
    iexact H7
  iexists _; isplitr; · ipureintro; rfl
  iexact H8

end Cert.KernelIdeal.Proj

end
-- ==== Proof.ProjFrame.lean ====
module

public import proofs.«01_k».proof.Proof.ProjRun
public import Idealize.ShloMosaic.Lib.Pipeline.TableIdle
public import Idealize.ShloMosaic.Lib.Claim

@[expose] public section

set_option maxRecDepth 16384

noncomputable section

/-! The in-projection's run: what every buffer holds after every grid point, and the launch. -/

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

/-- The body's branch is taken at the first point of a row of blocks. -/
theorem first_iff : ∀ t : Fin cfg0.N, k0_cond1 (grid0.coords t) = 1#1 ↔ t.val % 11 = 0 :=
  (fun t => by
    have ht : t.val < 176 := Nat.lt_of_lt_of_eq t.isLt N_0
    have e0 : (grid0.coords t 0).val = t.val / 11 % 16 := Pipeline.Grid.coords_val t 0 (by decide) rfl
    have e1 : (grid0.coords t 1).val = t.val / 1 % 11 := Pipeline.Grid.coords_val t 1 (by decide) rfl
    simp only [k0_cond1, e0, e1]
    word_cmp
   : ∀ t : Fin grid0.N, k0_cond1 (grid0.coords t) = 1#1 ↔ t.val % 11 = 0)

/-- The first point of the row of blocks the point `t` works on. -/
def rowStart (t : Fin cfg0.N) : Fin cfg0.N := ⟨t.val - t.val % 11, Nat.lt_of_le_of_lt (Nat.sub_le _ _) t.isLt⟩

/-- The point before. -/
def prev (t : Fin cfg0.N) : Fin cfg0.N := ⟨t.val - 1, Nat.lt_of_le_of_lt (Nat.sub_le _ _) t.isLt⟩

theorem rowStart_first (t : Fin cfg0.N) (h : t.val % 11 = 0) : rowStart t = t := Fin.ext (by simp only [rowStart]; omega)
theorem rowStart_later (t : Fin cfg0.N) (h : ¬t.val % 11 = 0) : rowStart (prev t) = rowStart t :=
  Fin.ext (by simp only [rowStart, prev]; omega)

/-! ## What the buffers hold -/

/-- The carried scratch after the point `t`: the row's block of the input, normalised. -/
def scratchAt (c : Dev nD) (t : Fin cfg0.N) : Vec F S1024x2048 .bf16 :=
  normed (iblk m c 0 (rowStart t)) (iblk m c 1 (rowStart t))

/-- The gate columns' buffer after the point `t`. -/
def gatesAt (c : Dev nD) (t : Fin cfg0.N) : Vec F S1024x128 .f32 :=
  gates (scratchAt m c t) (iblk m c 4 (rowStart t)) (iblk m c 5 (rowStart t))

/-- The main columns' buffer after the point `t`. -/
def colsAt (c : Dev nD) (t : Fin cfg0.N) : Vec F S1024x512 .f32 :=
  cols (scratchAt m c t) (iblk m c 2 t) (iblk m c 3 t)

theorem scratchAt_first (c : Dev nD) (t : Fin cfg0.N) (h : t.val % 11 = 0) :
    scratchAt m c t = normed (iblk m c 0 t) (iblk m c 1 t) := by unfold scratchAt; rw [rowStart_first t h]
theorem gatesAt_first (c : Dev nD) (t : Fin cfg0.N) (h : t.val % 11 = 0) :
    gatesAt m c t = gates (normed (iblk m c 0 t) (iblk m c 1 t)) (iblk m c 4 t) (iblk m c 5 t) := by
  unfold gatesAt; rw [scratchAt_first m c t h, rowStart_first t h]
theorem scratchAt_prev (c : Dev nD) (t : Fin cfg0.N) (h : ¬t.val % 11 = 0) : scratchAt m c (prev t) = scratchAt m c t := by
  unfold scratchAt; rw [rowStart_later t h]
theorem gatesAt_prev (c : Dev nD) (t : Fin cfg0.N) (h : ¬t.val % 11 = 0) : gatesAt m c (prev t) = gatesAt m c t := by
  unfold gatesAt; rw [scratchAt_prev m c t h, rowStart_later t h]

/-- The scratch as a memref. -/
abbrev scratch : Memref sig .tc .vmem S1024x2048 .bf16 := Memref.whole cc0_scratch0

/-- The region's invariant before the point `n`: the scratch at anything before the first point, then at what the point before left. -/
def Inv (c : Dev nD) : (n : ℕ) → n ≤ cfg0.N → sProp 𝕄
  | 0, _ => Pipeline.ΦA spec0 c
  | n + 1, hn => iprop(owns (c : Thread nD τ) scratch fullShare (scratchAt m c ⟨n, hn⟩) ∗ (∃ r, prngReg c r))

theorem Inv_zero (c : Dev nD) (n : ℕ) (h : n ≤ cfg0.N) (hz : n = 0) : Inv m c n h = Pipeline.ΦA spec0 c := by
  subst hz; rfl
theorem Inv_pos (c : Dev nD) (n : ℕ) (h : n ≤ cfg0.N) (hz : n ≠ 0) :
    Inv m c n h = iprop(owns (c : Thread nD τ) scratch fullShare (scratchAt m c ⟨n - 1, by omega⟩) ∗ (∃ r, prngReg c r)) := by
  cases n with
  | zero => exact absurd rfl hz
  | succ n => rfl

/-- The launch's invariant with the scratch as a memref. -/
theorem launch_inv (c : Dev nD) :
    (Pipeline.ΦA spec0 c : sProp 𝕄) = iprop((∃ d, owns (c : Thread nD τ) scratch fullShare d) ∗ (∃ r, prngReg c r)) := by
  unfold Pipeline.ΦA; rw [scopedRest0_eq]; simp only [scratch, owns_whole]; try rfl

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => colsAt m c t
    | ⟨7, _⟩ => gatesAt m c t
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Inv_castSucc (c : Dev nD) (t : Fin cfg0.N) : (dats m 0 c).Φ t.castSucc = Inv m c t.val (Nat.le_of_lt t.isLt) := by
  dsimp only [dats]; exact Pipeline.Dat.Φ_castSucc (Inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = colsAt m c t := by dsimp only [dats]
theorem after7 (c : Dev nD) (t : Fin cfg0.N) : (dats m 0 c).after 7 t = gatesAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- The gate columns' window is idle off the first points of the rows. -/
theorem idle7 (t : Fin cfg0.N) : cfg0.idle 7 (cfg0.grid.coords t) = !decide (t.val % 11 = 0) := by
  have h := first_iff t
  show (!(k0_cond1 (grid0.coords t) == 1#1)) = _
  congr 1
  by_cases h0 : t.val % 11 = 0
  · rw [decide_eq_true h0, h.mpr h0]; rfl
  · rw [decide_eq_false h0]; exact beq_eq_false_iff_ne.mpr fun e => h0 (h.mp e)

/-- It is written back after the last point of a row. -/
theorem flush7 (t : Fin cfg0.N) : (cfg0.win 7).flush t = decide (t.val % 11 = 10) := by
  have h := flush0_7 t
  by_cases h0 : t.val % 11 = 10
  · rw [decide_eq_true h0, h.mpr h0]
  · rw [decide_eq_false h0]; exact Bool.eq_false_iff.mpr fun e => h0 (h.mp e)

/-- Its buffer is fresh before the first point of a row. -/
theorem fresh7 (n : ℕ) (h : n ≤ cfg0.N) : cfg0.fresh 7 n = decide (n % 11 = 0) :=
  Pipeline.Cfg.fresh_tab cfg0 7 (fun n => decide (n % 11 = 0)) rfl (fun t => by
    rw [flush7, idle7]
    by_cases h0 : t.val % 11 = 0 <;> by_cases h1 : t.val % 11 = 10 <;>
      simp only [h0, h1, decide_true, decide_false, Bool.not_true, Bool.not_false, Bool.true_or, Bool.or_false, Bool.false_or, Bool.false_and, Bool.and_false] <;>
      first | omega | (refine decide_eq_true ?_; omega) | (refine decide_eq_false ?_; omega)) n h

/-- At a later point of a row the gate columns' buffer holds what the row's first point stored. -/
theorem before7 (c : Dev nD) (t : Fin cfg0.N) (h0 : ¬t.val % 11 = 0) (d) : (dats m 0 c).before 7 t d = gatesAt m c t := by
  rw [(dats m 0 c).before_out_traj 7 rfl (fun _ _ => rfl) (fun t _ _ hf => by
    rw [fresh7 _ (Nat.le_of_lt t.isLt)] at hf
    rw [after7, after7]
    exact (gatesAt_prev m c t (of_decide_eq_false hf)).symm) t.val t rfl d,
    fresh7 _ (Nat.le_of_lt t.isLt), decide_eq_false h0, if_neg Bool.false_ne_true, after7]
  exact gatesAt_prev m c t h0

/-! ## The body at a point -/

abbrev ms0 (t : Fin cfg0.N) : Memref sig .tc .vmem S1024x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x128 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x512 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1024x128 .f32 := win0_7.stage (cfg0.slots t 7)
abbrev hs7 (t : Fin cfg0.N) : (ms7 t).IsWhole := hstage0_7 ((cfg0.slots t 7).cast nbuf0_7)

/-- What the body is called with at the point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- What it returns, up to the gate columns' buffer, whose contents are `X`. -/
def bodyPost (c : Dev nD) (t : Fin cfg0.N) (G : sProp 𝕄) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ G)

/-- The gate columns' buffer at its contents after the point. -/
abbrev gatesOwned (c : Dev nD) (t : Fin cfg0.N) : sProp 𝕄 := owns (c : Thread nD τ) (ms7 t) fullShare (gatesAt m c t)

/-- The invariant after a point. -/
theorem Inv_succ (c : Dev nD) (t : Fin cfg0.N) : (dats m 0 c).Φ t.succ
    = iprop(owns (c : Thread nD τ) scratch fullShare (scratchAt m c t) ∗ (∃ r, prngReg c r)) := rfl

/-- Before any point the scratch holds something. -/
theorem Inv_any (c : Dev nD) (t : Fin cfg0.N) : (dats m 0 c).Φ t.castSucc
    ⊢ iprop((∃ d, owns (c : Thread nD τ) scratch fullShare d) ∗ (∃ r, prngReg c r)) := by
  rw [Inv_castSucc]
  by_cases hz : t.val = 0
  · rw [Inv_zero m c _ _ hz, launch_inv]
  · rw [Inv_pos m c _ _ hz]
    iintro ⟨HS, Hg⟩
    isplitl [HS]
    · iexists _; iexact HS
    iexact Hg

set_option maxHeartbeats 1000000 in
/-- The body at the first point of a row. -/
theorem sound_first (c : Dev nD) (t : Fin cfg0.N) (h0 : t.val % 11 = 0) :
    bodyPre m c t ⊢ wp frame (wpE (defs₀ (F := F)) Variants.none c none) Set.univ (bodyAt0 t) (fun _ => bodyPost m c t (gatesOwned m c t)) := by
  unfold bodyPre bodyPost bodyAt0 gatesOwned
  simp only [before0, before1, before2, before3, before4, before5]
  rw [show (dats m 0 c).owesAt () t.succ = (dats m 0 c).owesAt () t.castSucc from rfl,
    after0, after1, after2, after3, after4, after5, after6, Inv_succ]
  rw [colsAt, gatesAt_first m c t h0, scratchAt_first m c t h0]
  refine Idealize.SL.BI.Entails.trans (Idealize.SL.BI.Laws.sep_mono (Inv_any m c t) (Idealize.SL.BI.Entails.refl _)) ?_
  show (_ : sProp 𝕄) ⊢ _
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_first c (grid0.coords t) _ _ _ _ _ _ _ _ _ _ _ _ _ _ _ _ _ _ ((first_iff t).mpr h0)
    (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS]; · iexact HS
  iintro ⟨H0, H1, H2, H3, H4, H5, H6, H7, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 1000000 in
/-- The body at a later point of a row. -/
theorem sound_later (c : Dev nD) (t : Fin cfg0.N) (h0 : ¬t.val % 11 = 0) :
    bodyPre m c t ⊢ wp frame (wpE (defs₀ (F := F)) Variants.none c none) Set.univ (bodyAt0 t) (fun _ => bodyPost m c t (gatesOwned m c t)) := by
  have hz : t.val ≠ 0 := fun h => h0 (by rw [h])
  unfold bodyPre bodyPost bodyAt0 gatesOwned
  simp only [before0, before1, before2, before3, before4, before5, before7 m c t h0]
  rw [show (dats m 0 c).owesAt () t.succ = (dats m 0 c).owesAt () t.castSucc from rfl,
    after0, after1, after2, after3, after4, after5, after6, Inv_succ, Inv_castSucc, Inv_pos m c _ _ hz,
    show scratchAt m c ⟨t.val - 1, _⟩ = scratchAt m c t from scratchAt_prev m c t h0]
  unfold colsAt
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_later c (grid0.coords t) _ _ _ _ _ _ _ _ _ _ _ _ _ _ _ _ _ _ (fun h => h0 ((first_iff t).mp h))
    (iblk m c 0 t) (iblk m c 1 t) (iblk m c 2 t) (iblk m c 3 t) (iblk m c 4 t) (iblk m c 5 t) (gatesAt m c t) (scratchAt m c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [HS]; · iexact HS
  iintro ⟨H0, H1, H2, H3, H4, H5, H6, H7, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body at any point. -/
theorem sound_body (c : Dev nD) (t : Fin cfg0.N) :
    bodyPre m c t ⊢ wp frame (wpE (defs₀ (F := F)) Variants.none c none) Set.univ (bodyAt0 t) (fun _ => bodyPost m c t (gatesOwned m c t)) := by
  by_cases h0 : t.val % 11 = 0
  · exact sound_first m c t h0
  · exact sound_later m c t h0

/-- What the obligation asks of the gate columns' buffer follows from its contents. -/
theorem gates_left (c : Dev nD) (t : Fin cfg0.N) : gatesOwned m c t
    ⊢ (match cfg0.idle 7 (cfg0.grid.coords t) with
      | true => match (cfg0.win 7).flush t with
        | false => iprop(∃ d, owns (c : Thread nD τ) (ms7 t) fullShare ((dats m 0 c).before 7 t d))
        | true => owns (c : Thread nD τ) (ms7 t) fullShare ((dats m 0 c).after 7 t)
      | false => owns (c : Thread nD τ) (ms7 t) fullShare ((dats m 0 c).after 7 t) : sProp 𝕄) := by
  rw [idle7]
  by_cases h0 : t.val % 11 = 0
  · rw [decide_eq_true h0, Bool.not_true]
    rw [after7]
  · rw [decide_eq_false h0, Bool.not_false]
    cases hf : (cfg0.win 7).flush t
    · simp only [before7 m c t h0]
      iintro H
      iexists (gatesAt m c t)
      iexact H
    · simp only [after7]
      exact Idealize.SL.BI.Entails.refl _

/-- The body table's row at the point's slots is the body. -/
theorem body_row (t : Fin cfg0.N) : defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, body_row]
  refine triple_restated (sound_body m c t) rfl .rfl fun _ => ?_
  unfold bodyPost
  iintro ⟨HP, Ho, H0, H1, H2, H3, H4, H5, H6, H7⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (gates_left m c t)
  iexact H7

/-- The launch hands the invariant before the first point. -/
theorem hin (c : Dev nD) : Pipeline.ΦA spec0 c ⊢ (dats m 0 c).Φ 0 := by
  rw [show (dats m 0 c).Φ 0 = Inv m c 0 (Nat.zero_le _) from rfl, Inv_zero m c 0 _ rfl]

/-- After the last point the invariant is given back. -/
theorem hout (c : Dev nD) : (dats m 0 c).Φ (Fin.last cfg0.N) ⊢ Pipeline.ΦA spec0 c := by
  have hN : cfg0.N = 176 := N_0
  rw [show (dats m 0 c).Φ (Fin.last cfg0.N) = Inv m c cfg0.N (Nat.le_refl _) from rfl, Inv_pos m c _ _ (by omega), launch_inv]
  iintro ⟨HS, Hg⟩
  isplitl [HS]
  · iexists _; iexact HS
  iexact Hg

set_option backward.isDefEq.respectTransparency.types false in
/-- The launch: the run ends with every array of the pipeline at the proof data's contents and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Proj

end
-- ==== Proof.ProjValue.lean ====
module

public import proofs.«01_k».proof.Proof.ProjFrame
public import Idealize.ShloMosaic.Lib.Pipeline.ValueKit
public import Idealize.ShloMosaic.Lib.Pointwise
public import Idealize.ShloMosaic.Lib.Claim

@[expose] public section

set_option maxRecDepth 16384

/-! The in-projection: what its two results hold, entry by entry. -/

noncomputable section
open Idealize.ShloMosaic Idealize.ShloMosaic.TcCoe Idealize.SL.Sem
open Idealize.ShloMosaic.Pipeline (Dat)
namespace Cert.KernelIdeal.Proj
open Cert.KernelIdeal Cert.KernelIdeal.Gen

/-! ## A block -/

/-- Row `r` of a block at column `k`, normalised and scaled. -/
def blockNorm (x : FVec Ideal S1024x2048 .f32) (g : FVec Ideal S1x2048 .f32) (r : Fin 1024) (k : Fin 2048) : EReal :=
  x (ix2 r k) * Ideal.rsqrt (Ideal.div (∑ j : Fin 2048, x (ix2 r j) * x (ix2 r j)) (Ideal.ofBits .f32 0x45000000#32)
      + Ideal.ofBits .f32 0x358637BD#32) * g (ix2 0 k)

/-- The four groups of rows together are the normalised block. -/
theorem normed_at (x : FVec Ideal S1024x2048 .f32) (g : FVec Ideal S1x2048 .f32) (y : S1024x2048.Idx) :
    normed (F := Ideal) x g y = blockNorm x g (y 0) (y 1) := by
  unfold normed
  canon_tiles x' h
  all_goals (open_payloads; pointwise [blockNorm]; blk_point [])

/-- The main columns of a block. -/
theorem cols_at (u : FVec Ideal S1024x2048 .bf16) (w : FVec Ideal S2048x512 .bf16) (b : FVec Ideal S1x512 .f32)
    (y : S1024x512.Idx) :
    cols (F := Ideal) u w b y = (∑ k : Fin 2048, u (ix2 (y 0) k) * w (ix2 k (y 1))) + b (ix2 0 (y 1)) := by
  unfold cols
  canon_tiles x' h
  all_goals (open_payloads; pointwise; blk_point [])

/-- The gate columns of a block. -/
theorem gates_at (u : FVec Ideal S1024x2048 .bf16) (w : FVec Ideal S2048x128 .bf16) (b : FVec Ideal S1x128 .f32)
    (y : S1024x128.Idx) :
    gates (F := Ideal) u w b y = (∑ k : Fin 2048, u (ix2 (y 0) k) * w (ix2 k (y 1))) + b (ix2 0 (y 1)) := by
  unfold gates
  canon_tiles x' h
  all_goals (open_payloads; pointwise; blk_point [])

/-! ## The whole arrays -/

/-- The windows' blocks at a point. -/
theorem idx : ∀ t : Fin cfg0.N, win0_0.index t = ![t.val / 11, 0] ∧ win0_1.index t = ![0, 0] ∧ win0_2.index t = ![0, t.val % 11]
    ∧ win0_3.index t = ![0, t.val % 11] ∧ win0_4.index t = ![0, 0] ∧ win0_5.index t = ![0, 0]
    ∧ win0_6.index t = ![t.val / 11, t.val % 11] ∧ win0_7.index t = ![t.val / 11, 0] :=
  (by decide +kernel : ∀ t : Fin grid0.N, win0_0.index t = ![t.val / 11, 0] ∧ win0_1.index t = ![0, 0] ∧ win0_2.index t = ![0, t.val % 11]
    ∧ win0_3.index t = ![0, t.val % 11] ∧ win0_4.index t = ![0, 0] ∧ win0_5.index t = ![0, 0]
    ∧ win0_6.index t = ![t.val / 11, t.val % 11] ∧ win0_7.index t = ![t.val / 11, 0])

/-- Where a main column stands among all columns: the mLSTM's gate columns are left out. -/
def mainCol (j : Fin 5632) : Fin 5640 := if j.val < 3584 then ⟨j.val, by omega⟩ else ⟨j.val + 8, by omega⟩

/-- The input at row `r` and column `k`, normalised and scaled. -/
def un (x : FVec Ideal S1x16384x2048 .f32) (g : FVec Ideal S1x2048 .f32) (r : Fin 16384) (k : Fin 2048) : EReal :=
  x (ix3 0 r k) * Ideal.rsqrt (Ideal.div (∑ j : Fin 2048, x (ix3 0 r j) * x (ix3 0 r j)) (Ideal.ofBits .f32 0x45000000#32)
      + Ideal.ofBits .f32 0x358637BD#32) * g (ix2 0 k)

/-- The projection at row `r` and column `j`. -/
def proj (x : FVec Ideal S1x16384x2048 .f32) (g : FVec Ideal S1x2048 .f32) (w : FVec Ideal S1x2048x5640 .f32)
    (b : FVec Ideal S1x5640 .f32) (r : Fin 16384) (j : Fin 5640) : EReal :=
  (∑ k : Fin 2048, un x g r k * w (ix3 0 k j)) + b (ix2 0 j)

/-- The main columns. -/
def outMain (x : FVec Ideal S1x16384x2048 .f32) (g : FVec Ideal S1x2048 .f32) (w : FVec Ideal S1x2048x5640 .f32)
    (b : FVec Ideal S1x5640 .f32) : FVec Ideal S16384x5632 .f32 := fun i => proj x g w b (i 0) (mainCol (i 1))

/-- The gate columns, filled up with zeros. -/
def outGate (x : FVec Ideal S1x16384x2048 .f32) (g : FVec Ideal S1x2048 .f32) (w : FVec Ideal S1x2048x5640 .f32)
    (b : FVec Ideal S1x5640 .f32) : FVec Ideal S16384x128 .f32 := fun i =>
  if h : (i 1).val < 8 then proj x g w b (i 0) ⟨3584 + (i 1).val, by omega⟩ else 0

variable (m : (ℓ : Loc nD τ sig) → Buf (Elt Ideal) ℓ)

/-- The rows of the point's block, in the array. -/
def row (t : Fin cfg0.N) (r : Fin 1024) : Fin 16384 :=
  ⟨t.val / 11 * 1024 + r.val, by have : t.val < 176 := Nat.lt_of_lt_of_eq t.isLt N_0; omega⟩

/-- The main columns of the point's block, in the array. -/
def col (t : Fin cfg0.N) (j : Fin 512) : Fin 5632 := ⟨t.val % 11 * 512 + j.val, by omega⟩

theorem x_at (c : Dev nD) (t : Fin cfg0.N) (r : Fin 1024) (k : Fin 2048) :
    iblk m c 0 t (ix2 r k) = m ((c : Thread nD τ).loc main_arg0) (ix3 0 (row t r) k) := by
  blk_point [iblk, idx t, row]

theorem g_at (c : Dev nD) (t : Fin cfg0.N) (k : Fin 2048) :
    iblk m c 1 t (ix2 0 k) = m ((c : Thread nD τ).loc main_arg1) (ix2 0 k) := by
  blk_point [iblk, idx t]

/-- The prepared weights of the main columns. -/
theorem V_w (c : Dev nD) (k : Fin 2048) (j : Fin 5632) :
    V m c main_v6 (ix2 k j) = m ((c : Thread nD τ).loc main_arg2) (ix3 0 k (mainCol j)) := by
  entry_read
  pointwise [mainCol]
  by_cases h : j.val < 3584
  · simp only [h, ↓reduceDIte, ↓reduceIte]
  · simp only [h, ↓reduceDIte, ↓reduceIte]; blk_ext

theorem V_b (c : Dev nD) (j : Fin 5632) :
    V m c main_v10 (ix2 0 j) = m ((c : Thread nD τ).loc main_arg3) (ix2 0 (mainCol j)) := by
  entry_read
  pointwise [mainCol]
  by_cases h : j.val < 3584
  · simp only [h, ↓reduceDIte, ↓reduceIte]
  · simp only [h, ↓reduceDIte, ↓reduceIte]; blk_ext

theorem V_wg (c : Dev nD) (k : Fin 2048) (j : Fin 128) :
    V m c main_v14 (ix2 k j) = if h : j.val < 8 then m ((c : Thread nD τ).loc main_arg2) (ix3 0 k ⟨3584 + j.val, by omega⟩) else (0 : EReal) := by
  entry_read
  pointwise

theorem V_bg (c : Dev nD) (j : Fin 128) :
    V m c main_v18 (ix2 0 j) = if h : j.val < 8 then m ((c : Thread nD τ).loc main_arg3) (ix2 0 ⟨3584 + j.val, by omega⟩) else (0 : EReal) := by
  entry_read
  pointwise

theorem w_at (c : Dev nD) (t : Fin cfg0.N) (k : Fin 2048) (j : Fin 512) :
    iblk m c 2 t (ix2 k j) = m ((c : Thread nD τ).loc main_arg2) (ix3 0 k (mainCol (col t j))) := by
  refine Eq.trans ?_ (V_w m c k (col t j))
  show V m c main_v6 _ = V m c main_v6 _
  blk_ext! [idx t, col]

theorem b_at (c : Dev nD) (t : Fin cfg0.N) (j : Fin 512) :
    iblk m c 3 t (ix2 0 j) = m ((c : Thread nD τ).loc main_arg3) (ix2 0 (mainCol (col t j))) := by
  refine Eq.trans ?_ (V_b m c (col t j))
  show V m c main_v10 _ = V m c main_v10 _
  blk_ext! [idx t, col]

theorem wg_at (c : Dev nD) (t : Fin cfg0.N) (k : Fin 2048) (j : Fin 128) :
    iblk m c 4 t (ix2 k j) = if h : j.val < 8 then m ((c : Thread nD τ).loc main_arg2) (ix3 0 k ⟨3584 + j.val, by omega⟩) else (0 : EReal) := by
  refine Eq.trans ?_ (V_wg m c k j)
  show V m c main_v14 _ = V m c main_v14 _
  blk_ext! [idx t]

theorem bg_at (c : Dev nD) (t : Fin cfg0.N) (j : Fin 128) :
    iblk m c 5 t (ix2 0 j) = if h : j.val < 8 then m ((c : Thread nD τ).loc main_arg3) (ix2 0 ⟨3584 + j.val, by omega⟩) else (0 : EReal) := by
  refine Eq.trans ?_ (V_bg m c j)
  show V m c main_v18 _ = V m c main_v18 _
  blk_ext! [idx t]

theorem row_start (t : Fin cfg0.N) (r : Fin 1024) : row (rowStart t) r = row t r :=
  Fin.ext (by simp only [row, rowStart]; omega)

/-- The carried block, entry by entry. -/
theorem scratch_at (c : Dev nD) (t : Fin cfg0.N) (r : Fin 1024) (k : Fin 2048) :
    scratchAt m c t (ix2 r k)
      = un (m ((c : Thread nD τ).loc main_arg0)) (m ((c : Thread nD τ).loc main_arg1)) (row t r) k := by
  unfold scratchAt
  refine (normed_at _ _ _).trans ?_
  show blockNorm (iblk m c 0 (rowStart t)) (iblk m c 1 (rowStart t)) r k = _
  unfold blockNorm un
  simp only [x_at, g_at, row_start]

/-- Where the point's block of main columns lies. -/
theorem emb6 (t : Fin cfg0.N) (y : S1024x512.Idx) :
    ((cfg0.win 6).blk t).view.emb y = ix2 (row t (y 0)) (col t (y 1)) := by
  blk_ext! [idx t, row, col]

/-- Where the point's block of gate columns lies. -/
theorem emb7 (t : Fin cfg0.N) (y : S1024x128.Idx) :
    ((cfg0.win 7).blk t).view.emb y = ix2 (row t (y 0)) (y 1) := by
  blk_ext! [idx t, row]

theorem outMain_at (x : FVec Ideal S1x16384x2048 .f32) (g : FVec Ideal S1x2048 .f32) (w : FVec Ideal S1x2048x5640 .f32)
    (b : FVec Ideal S1x5640 .f32) (r : Fin 16384) (j : Fin 5632) :
    outMain x g w b (ix2 r j) = (∑ k : Fin 2048, un x g r k * w (ix3 0 k (mainCol j))) + b (ix2 0 (mainCol j)) := rfl

theorem outGate_at (x : FVec Ideal S1x16384x2048 .f32) (g : FVec Ideal S1x2048 .f32) (w : FVec Ideal S1x2048x5640 .f32)
    (b : FVec Ideal S1x5640 .f32) (r : Fin 16384) (j : Fin 128) :
    outGate x g w b (ix2 r j) = if h : j.val < 8 then
      (∑ k : Fin 2048, un x g r k * w (ix3 0 k ⟨3584 + j.val, by omega⟩)) + b (ix2 0 ⟨3584 + j.val, by omega⟩) else 0 := rfl

/-- What a point stores into its block of main columns. -/
theorem point6 (c : Dev nD) (t : Fin cfg0.N) (r : Fin 1024) (j : Fin 512) : colsAt m c t (ix2 r j)
    = outMain (m ((c : Thread nD τ).loc main_arg0)) (m ((c : Thread nD τ).loc main_arg1)) (m ((c : Thread nD τ).loc main_arg2))
          (m ((c : Thread nD τ).loc main_arg3)) (ix2 (row t r) (col t j)) := by
  unfold colsAt
  refine (cols_at _ _ _ _).trans ?_
  rw [outMain_at]
  show (∑ k : Fin 2048, scratchAt m c t (ix2 r k) * iblk m c 2 t (ix2 k j)) + iblk m c 3 t (ix2 0 j) = _
  simp only [scratch_at, w_at, b_at]

/-- What a point leaves in its block of gate columns. -/
theorem point7 (c : Dev nD) (t : Fin cfg0.N) (r : Fin 1024) (j : Fin 128) : gatesAt m c t (ix2 r j)
    = outGate (m ((c : Thread nD τ).loc main_arg0)) (m ((c : Thread nD τ).loc main_arg1)) (m ((c : Thread nD τ).loc main_arg2))
          (m ((c : Thread nD τ).loc main_arg3)) (ix2 (row t r) j) := by
  unfold gatesAt
  refine (gates_at _ _ _ _).trans ?_
  rw [outGate_at]
  show (∑ k : Fin 2048, scratchAt m c t (ix2 r k) * iblk m c 4 (rowStart t) (ix2 k j)) + iblk m c 5 (rowStart t) (ix2 0 j) = _
  simp only [scratch_at, wg_at, bg_at]
  by_cases h : j.val < 8
  · simp only [h, ↓reduceDIte]
  · simp only [h, ↓reduceDIte, mul_zero, Finset.sum_const_zero, add_zero]

/-- The main columns after the run. -/
theorem final6 (c : Dev nD) : (dats m 0 c).arrAt 6 (cfgs 0).N
    = outMain (m ((c : Thread nD τ).loc main_arg0)) (m ((c : Thread nD τ).loc main_arg1)) (m ((c : Thread nD τ).loc main_arg2))
          (m ((c : Thread nD τ).loc main_arg3)) := by
  refine (dats m 0 c).arrAt_eq_of_covers 6 _ (by decide +kernel) fun t _ y => ?_
  blk_simp
  rw [after6, emb6, ← ix2_eta y]
  exact point6 m c t (y 0) (y 1)

/-- The gate columns after the run. -/
theorem final7 (c : Dev nD) : (dats m 0 c).arrAt 7 (cfgs 0).N
    = outGate (m ((c : Thread nD τ).loc main_arg0)) (m ((c : Thread nD τ).loc main_arg1)) (m ((c : Thread nD τ).loc main_arg2))
          (m ((c : Thread nD τ).loc main_arg3)) := by
  refine (dats m 0 c).arrAt_eq_of_covers 7 _ (by decide +kernel) fun t _ y => ?_
  blk_simp
  rw [after7, emb7, ← ix2_eta y]
  exact point7 m c t (y 0) (y 1)

end Cert.KernelIdeal.Proj
end
-- ==== Proof.ProjTerm.lean ====
module

public import proofs.«01_k».proof.Proof.ProjValue
public import proofs.«01_k».proof.Proof.Gen.ReferenceIdeal.Run
public import Idealize.ShloMosaic.Lib.Pointwise

@[expose] public section

set_option maxRecDepth 16384

/-! The reference of the in-projection, read at an index. -/

noncomputable section
open Idealize.ShloMosaic Idealize.ShloMosaic.TcCoe Idealize.SL.Sem
namespace Cert.ReferenceIdeal.Term
open Cert.ReferenceIdeal Cert.ReferenceIdeal.Gen

/-- Every column of the projection. -/
def z (x : FVec Ideal S1x16384x2048 .f32) (g : FVec Ideal S1x2048 .f32) (w : FVec Ideal S1x2048x5640 .f32)
    (b : FVec Ideal S1x5640 .f32) : FVec Ideal S16384x5640 .f32 :=
  addf (Host.dotGeneral dot_S16384x2048_S2048x5640_S16384x5640_1_0_0_1_n_n none (mulf (mulf (shapeCast _ x shapeCasts_S1x16384x2048_S16384x2048) (broadcastInDim S16384x2048 ![0, 1] bcast_S16384x1_S16384x2048_0_1 (Host.rsqrt (addf (Host.divf (broadcastInDim S16384x1 ![0] bcast_S16384_S16384x1_0 (Host.reduceAdd (mulf (shapeCast _ x shapeCasts_S1x16384x2048_S16384x2048) (shapeCast _ x shapeCasts_S1x16384x2048_S16384x2048)) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 (shapeCast _ g shapeCasts_S1x2048_S2048)))) (shapeCast _ w shapeCasts_S1x2048x5640_S2048x5640)) (broadcastInDim S16384x5640 ![0, 1] bcast_S1x5640_S16384x5640_0_1 (broadcastInDim S1x5640 ![1] bcast_S5640_S1x5640_1 (shapeCast _ b shapeCasts_S1x5640_S5640)))

/-- The columns without the mLSTM's gates. -/
def mainCols (z : FVec Ideal S16384x5640 .f32) : FVec Ideal S16384x5632 .f32 :=
  concatenate S16384x5632 1 [⟨S16384x1024, extractStridedSlice S16384x1024 ![0, 0] z slices_S16384x5640_S16384x1024_0_0⟩,
    ⟨S16384x256, extractStridedSlice S16384x256 ![0, 1024] z slices_S16384x5640_S16384x256_0_1024⟩,
    ⟨S16384x256, extractStridedSlice S16384x256 ![0, 1280] z slices_S16384x5640_S16384x256_0_1280⟩,
    ⟨S16384x1024, extractStridedSlice S16384x1024 ![0, 1536] z slices_S16384x5640_S16384x1024_0_1536⟩,
    ⟨S16384x256, extractStridedSlice S16384x256 ![0, 2560] z slices_S16384x5640_S16384x256_0_2560⟩,
    ⟨S16384x256, extractStridedSlice S16384x256 ![0, 2816] z slices_S16384x5640_S16384x256_0_2816⟩,
    ⟨S16384x512, extractStridedSlice S16384x512 ![0, 3072] z slices_S16384x5640_S16384x512_0_3072⟩,
    ⟨S16384x512, extractStridedSlice S16384x512 ![0, 3592] z slices_S16384x5640_S16384x512_0_3592⟩,
    ⟨S16384x512, extractStridedSlice S16384x512 ![0, 4104] z slices_S16384x5640_S16384x512_0_4104⟩,
    ⟨S16384x512, extractStridedSlice S16384x512 ![0, 4616] z slices_S16384x5640_S16384x512_0_4616⟩,
    ⟨S16384x512, extractStridedSlice S16384x512 ![0, 5128] z slices_S16384x5640_S16384x512_0_5128⟩]
    concatenates_S16384x1024_S16384x256_S16384x256_S16384x1024_S16384x256_S16384x256_S16384x512_S16384x512_S16384x512_S16384x512_S16384x512_S16384x5632_d1

/-- The gates' columns, filled up with zeros. -/
def gateCols (z : FVec Ideal S16384x5640 .f32) : FVec Ideal S16384x128 .f32 :=
  concatenate S16384x128 1 [⟨S16384x4, extractStridedSlice S16384x4 ![0, 3584] z slices_S16384x5640_S16384x4_0_3584⟩,
    ⟨S16384x4, extractStridedSlice S16384x4 ![0, 3588] z slices_S16384x5640_S16384x4_0_3588⟩,
    ⟨S16384x120, broadcastInDim S16384x120 ![] bcast_S_S16384x120 (constant S_ .f32 0x00000000#32)⟩]
    concatenates_S16384x4_S16384x4_S16384x120_S16384x128_d1

/-- A column of the projection. -/
theorem z_at (x : FVec Ideal S1x16384x2048 .f32) (g : FVec Ideal S1x2048 .f32) (w : FVec Ideal S1x2048x5640 .f32)
    (b : FVec Ideal S1x5640 .f32) (r : Fin 16384) (j : Fin 5640) :
    z x g w b (ix2 r j) = Cert.KernelIdeal.Proj.proj x g w b r j := by
  pointwise [z, Cert.KernelIdeal.Proj.proj, Cert.KernelIdeal.Proj.un]

/-- Where a main column comes from. -/
theorem mainCols_at (z : FVec Ideal S16384x5640 .f32) (r : Fin 16384) (j : Fin 5632) :
    mainCols z (ix2 r j) = z (ix2 r (Cert.KernelIdeal.Proj.mainCol j)) := by
  unfold Cert.KernelIdeal.Proj.mainCol
  split
  all_goals (pointwise [mainCols]; blk_point [])

/-- Where a gate column comes from. -/
theorem gateCols_at (z : FVec Ideal S16384x5640 .f32) (r : Fin 16384) (j : Fin 128) :
    gateCols z (ix2 r j) = if h : j.val < 8 then z (ix2 r ⟨3584 + j.val, by omega⟩) else 0 := by
  pointwise [gateCols]
  blk_point []
  all_goals (exfalso; omega)

/-- The reference's main columns are the kernel's. -/
theorem eq_main (x : FVec Ideal S1x16384x2048 .f32) (g : FVec Ideal S1x2048 .f32) (w : FVec Ideal S1x2048x5640 .f32)
    (b : FVec Ideal S1x5640 .f32) : mainCols (z x g w b) = Cert.KernelIdeal.Proj.outMain x g w b := by
  funext i
  idx_vars i
  rw [mainCols_at, z_at]
  rfl

/-- The reference's gate columns are the kernel's. -/
theorem eq_gate (x : FVec Ideal S1x16384x2048 .f32) (g : FVec Ideal S1x2048 .f32) (w : FVec Ideal S1x2048x5640 .f32)
    (b : FVec Ideal S1x5640 .f32) : gateCols (z x g w b) = Cert.KernelIdeal.Proj.outGate x g w b := by
  funext i
  idx_vars i
  rw [gateCols_at]
  simp only [z_at]
  rfl

end Cert.ReferenceIdeal.Term
end
-- ==== Proof.ProjClaims.lean ====
module

public import proofs.«01_k».proof.Defs
public import proofs.«01_k».proof.Proof.ProjTerm
public import proofs.«01_k».proof.Proof.Gen.Kernel
public import Idealize.ShloMosaic.Lib.Quiescent

@[expose] public section

set_option maxRecDepth 16384

/-! The claims about the in-projection. -/

noncomputable section
open Idealize.ShloMosaic Idealize.ShloMosaic.TcCoe Idealize.SL.Sem
namespace Cert.Proof.ProjClaims

/-- The two body tables are one. -/
theorem bodies_eq : Cert.Kernel.defs₀ (F := Bits) = Cert.KernelIdeal.defs₀ (F := Bits) := by
  unfold Cert.Kernel.defs₀ Cert.KernelIdeal.defs₀
  refine congrArg (Defs.onTc (nD := Cert.Kernel.nD) (τ := Cert.Kernel.τ) (sig := Cert.Kernel.sig) (Val := Elt Bits) (Λ := Cert.Kernel.Λ₀)) ?_
  funext l a
  match l, a with
  | 0, (t, s) => rfl

/-- So are the two programs' tables. -/
theorem defs_eq : Cert.Kernel.defs (F := Bits) = Cert.KernelIdeal.defs (F := Bits) := by
  unfold Cert.Kernel.defs Cert.KernelIdeal.defs
  exact congrArg (Pipeline.defs Cert.Kernel.pcfgs) bodies_eq

/-- The kernel's run on the formats' bits: it leaves the arguments as they are and every semaphore at zero. -/
theorem frame_kernel : Cert.quiescent_Kernel := fun m ρ _ => by
  rw [defs_eq]
  exact (θ_run Cert.KernelIdeal.defs _ _).mono (fun _ h => h) (Cert.KernelIdeal.Proj.frame (F := Bits) m ρ)

/-- The same run on the extended reals. -/
theorem frame_kernel_ideal : Cert.quiescent_KernelIdeal := fun m ρ _ => Cert.KernelIdeal.Proj.frame (F := Ideal) m ρ

/-- The reference leaves its arguments as they are and has no semaphores. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- Kernel and reference end in the same two arrays. -/
theorem algebraic : Cert.algebraic_KernelIdeal_ReferenceIdeal := by
  pair_intro
  · run_from Cert.KernelIdeal.Proj.run_main m g
  · run_from Cert.ReferenceIdeal.Value.run m' g'
    · refine Eq.trans ?_ (Cert.KernelIdeal.Proj.final6 m c).symm
      rw [Cert.ReferenceIdeal.Value.res_main_v35, (hagree c).1, (hagree c).2.1, (hagree c).2.2.1, (hagree c).2.2.2]
      exact Cert.ReferenceIdeal.Term.eq_main _ _ _ _
    · refine Eq.trans ?_ (Cert.KernelIdeal.Proj.final7 m c).symm
      rw [(hagree c).2.2.2]
      exact Cert.ReferenceIdeal.Term.eq_gate _ _ _ _

end Cert.Proof.ProjClaims
end
-- ==== Proof.MemkvValue.lean ====
module

public import proofs.«01_k».proof.Proof.Gen.MemkvIdeal.Value
public import proofs.«01_k».proof.Proof.Gen.MemkvReferenceIdeal.Run
public import Idealize.ShloMosaic.Lib.Pipeline.ValueKit
public import Idealize.ShloMosaic.Lib.Pointwise
public import Idealize.ShloMosaic.Lib.Claim

@[expose] public section

set_option maxRecDepth 16384

/-! The memory's keys and values: every block of 256 columns that the kernel writes back is the block of one array,
the normalised memory tokens times the weights. -/

noncomputable section
open Idealize.ShloMosaic Idealize.ShloMosaic.TcCoe Idealize.SL.Sem
open Idealize.ShloMosaic.Pipeline (Dat)
namespace Cert.MemkvIdeal.Whole
open Cert.MemkvIdeal Cert.MemkvIdeal.Gen

/-- Column `k` of the normalised token `r`. -/
def unit (x : FVec Ideal S1x256x2048 .f32) (g : FVec Ideal S1x2048 .f32) (r : Fin 256) (k : Fin 2048) : EReal :=
  x (ix3 0 r k)
    * Ideal.rsqrt (Ideal.div (∑ l : Fin 2048, x (ix3 0 r l) * x (ix3 0 r l)) (Ideal.ofBits .f32 0x45000000#32)
        + Ideal.ofBits .f32 0x358637BD#32)
    * g (ix2 0 k)

/-- The result at row `r` and column `l`. -/
def out (x : FVec Ideal S1x256x2048 .f32) (g : FVec Ideal S1x2048 .f32) (w : FVec Ideal S1x2048x1024 .f32) :
    FVec Ideal S256x1024 .f32 := fun i => ∑ k : Fin 2048, unit x g (i 0) k * w (ix3 0 k (i 1))

/-- The blocks of the windows: the weights' columns move with the point. -/
theorem idx : ∀ t : Fin cfg0.N, win0_0.index t = ![0, 0] ∧ win0_1.index t = ![0, 0] ∧ win0_2.index t = ![0, t.val]
    ∧ win0_3.index t = ![0, t.val] :=
  (by decide +kernel : ∀ t : Fin grid0.N, win0_0.index t = ![0, 0] ∧ win0_1.index t = ![0, 0] ∧ win0_2.index t = ![0, t.val]
    ∧ win0_3.index t = ![0, t.val])

variable (m : (ℓ : Loc nD τ sig) → Buf (Elt Ideal) ℓ)

/-- What point `t` stores at `y` is the result where `y` sits in the array. -/
theorem point (c : Dev nD) (t : Fin cfg0.N) (y : S256x256.Idx) :
    k0_pay1 (F := Ideal) (iblk m c 0 t) (iblk m c 1 t) (iblk m c 2 t) y
      = out (m ((c : Thread nD τ).loc main_arg0)) (m ((c : Thread nD τ).loc main_arg1)) (m ((c : Thread nD τ).loc main_arg2))
          (((cfg0.win 3).blk t).view.emb y) := by
  pointwise [k0_pay1, out, unit]
  blk_point [iblk, idx t]

/-- The result array after the run. -/
theorem final (c : Dev nD) : (dats m 0 c).arrAt 3 (cfgs 0).N
    = out (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.MemkvIdeal.Whole
end
-- ==== Proof.MemkvTerm.lean ====
module

public import proofs.«01_k».proof.Proof.MemkvValue
public import proofs.«01_k».proof.Proof.Gen.MemkvReferenceIdeal.Run
public import Idealize.ShloMosaic.Lib.Pointwise

@[expose] public section

set_option maxRecDepth 16384

/-! The reference of the memory's keys and values, read at an index. -/

noncomputable section
open Idealize.ShloMosaic Idealize.ShloMosaic.TcCoe Idealize.SL.Sem
namespace Cert.MemkvReferenceIdeal.Term
open Cert.MemkvReferenceIdeal Cert.MemkvReferenceIdeal.Gen

/-- The tokens normalised and scaled. -/
def unit (x : FVec Ideal S1x256x2048 .f32) (g : FVec Ideal S1x2048 .f32) : FVec Ideal S256x2048 .f32 :=
  mulf (mulf (shapeCast _ x shapeCasts_S1x256x2048_S256x2048) (broadcastInDim S256x2048 ![0, 1] bcast_S256x1_S256x2048_0_1
      (Host.rsqrt (addf (Host.divf (broadcastInDim S256x1 ![0] bcast_S256_S256x1_0
          (Host.reduceAdd (mulf (shapeCast _ x shapeCasts_S1x256x2048_S256x2048) (shapeCast _ x shapeCasts_S1x256x2048_S256x2048))
            (constant S_ .f32 0x00000000#32) reducesTo_S256x2048_S256_d1 h_S_))
        (broadcastInDim S256x1 ![] bcast_S_S256x1 (constant S_ .f32 0x45000000#32)))
      (broadcastInDim S256x1 ![] bcast_S_S256x1 (constant S_ .f32 0x358637BD#32))))))
    (broadcastInDim S256x2048 ![0, 1] bcast_S1x2048_S256x2048_0_1 (broadcastInDim S1x2048 ![1] bcast_S2048_S1x2048_1
      (shapeCast _ g shapeCasts_S1x2048_S2048)))

/-- The product with the weights. -/
def out (u : FVec Ideal S256x2048 .f32) (w : FVec Ideal S1x2048x1024 .f32) : FVec Ideal S256x1024 .f32 :=
  Host.dotGeneral dot_S256x2048_S2048x1024_S256x1024_1_0_0_1_n_n none u (shapeCast _ w shapeCasts_S1x2048x1024_S2048x1024)

/-- The normalised tokens at an index. -/
theorem unit_at (x : FVec Ideal S1x256x2048 .f32) (g : FVec Ideal S1x2048 .f32) (r : Fin 256) (k : Fin 2048) :
    unit x g (ix2 r k) = Cert.MemkvIdeal.Whole.unit x g r k := by
  unfold Cert.MemkvIdeal.Whole.unit
  pointwise [unit]

/-- The product at an index. -/
theorem out_at (u : FVec Ideal S256x2048 .f32) (w : FVec Ideal S1x2048x1024 .f32) (r : Fin 256) (l : Fin 1024) :
    out u w (ix2 r l) = ∑ k : Fin 2048, u (ix2 r k) * w (ix3 0 k l) := by
  pointwise [out]

/-- The reference's result is the kernel's. -/
theorem eq_out (x : FVec Ideal S1x256x2048 .f32) (g : FVec Ideal S1x2048 .f32) (w : FVec Ideal S1x2048x1024 .f32) :
    out (unit x g) w = Cert.MemkvIdeal.Whole.out x g w := by
  funext i
  idx_vars i
  rw [out_at]
  simp only [unit_at]
  rfl

end Cert.MemkvReferenceIdeal.Term
end
-- ==== Proof.MemkvClaims.lean ====
module

public import proofs.«01_k».proof.Defs
public import proofs.«01_k».proof.Proof.MemkvTerm
public import proofs.«01_k».proof.Proof.Gen.Memkv.Frame
public import Idealize.ShloMosaic.Lib.Quiescent

@[expose] public section

set_option maxRecDepth 16384

/-! The claims about the memory keys and values. -/

noncomputable section
open Idealize.ShloMosaic Idealize.ShloMosaic.TcCoe Idealize.SL.Sem
namespace Cert.Proof.MemkvClaims

/-- The reference leaves its arguments as they are and has no semaphores. -/
theorem frame_reference : Cert.quiescent_MemkvReferenceIdeal := fun m ρ _ =>
  (θ_run Cert.MemkvReferenceIdeal.defs _ _).mono (fun r h => ⟨fun c => (h c).2, sem_eq_zero_of_no_sems (by decide) r.2⟩)
    (Cert.MemkvReferenceIdeal.Value.run (F := Ideal) m ρ)

/-- Kernel and reference end in the same array. -/
theorem algebraic : Cert.algebraic_MemkvIdeal_MemkvReferenceIdeal := by
  pair_intro
  · run_from Cert.MemkvIdeal.Gen.run_main m g
  · run_from Cert.MemkvReferenceIdeal.Value.run m' g'
    refine Eq.trans ?_ (Cert.MemkvIdeal.Whole.final m c).symm
    exact Cert.MemkvReferenceIdeal.Term.eq_out _ _ _

end Cert.Proof.MemkvClaims
end
-- ==== Proof.OutprojValue.lean ====
module

public import proofs.«01_k».proof.Proof.Gen.OutprojIdeal.Value
public import proofs.«01_k».proof.Proof.Gen.OutprojReferenceIdeal.Run
public import Idealize.ShloMosaic.Lib.Pipeline.ValueKit
public import Idealize.ShloMosaic.Lib.Pointwise
public import Idealize.ShloMosaic.Lib.Claim

@[expose] public section

set_option maxRecDepth 16384

/-! The out-projection: every block of 512 rows that the kernel writes back is the block of one array, the norm of
the residual plus the mixers' output times the weights. -/

noncomputable section
open Idealize.ShloMosaic Idealize.ShloMosaic.TcCoe Idealize.SL.Sem
open Idealize.ShloMosaic.Pipeline (Dat)
namespace Cert.OutprojIdeal.Whole
open Cert.OutprojIdeal Cert.OutprojIdeal.Gen

/-- The sum before the norm, at row `r` and column `l`. -/
def acc (y : FVec Ideal S16384x2048 .bf16) (x : FVec Ideal S1x16384x2048 .f32) (w : FVec Ideal S1x2048x2048 .f32)
    (r : Fin 16384) (l : Fin 2048) : EReal :=
  (∑ k : Fin 2048, y (ix2 r k) * w (ix3 0 k l)) + x (ix3 0 r l)

/-- The result at row `r` and column `l`: the sum there over the root of the row's mean square, scaled. -/
def out (y : FVec Ideal S16384x2048 .bf16) (x : FVec Ideal S1x16384x2048 .f32) (w : FVec Ideal S1x2048x2048 .f32)
    (g : FVec Ideal S2048 .f32) : FVec Ideal S16384x2048 .f32 := fun i =>
  acc y x w (i 0) (i 1)
    * Ideal.rsqrt (Ideal.div (∑ k : Fin 2048, acc y x w (i 0) k * acc y x w (i 0) k) (Ideal.ofBits .f32 0x45000000#32)
        + Ideal.ofBits .f32 0x358637BD#32)
    * g (ix1 (i 1))

/-- The blocks of the windows: the rows move with the point, the weights and the scale stay. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] :=
  (by decide +kernel : ∀ t : Fin grid0.N, win0_0.index t = ![t.val, 0] ∧ win0_1.index t = ![t.val, 0] ∧ win0_2.index t = ![0, 0]
    ∧ win0_3.index t = ![0, 0] ∧ win0_4.index t = ![t.val, 0])

variable (m : (ℓ : Loc nD τ sig) → Buf (Elt Ideal) ℓ)

/-- What point `t` stores at `y` is the result where `y` sits in the array. -/
theorem point (c : Dev nD) (t : Fin cfg0.N) (y : S512x2048.Idx) :
    k0_pay1 (F := Ideal) (iblk m c 0 t) (iblk m c 2 t) (iblk m c 1 t) (iblk m c 3 t) y
      = out (m ((c : Thread nD τ).loc main_arg0)) (m ((c : Thread nD τ).loc main_arg1)) (m ((c : Thread nD τ).loc main_arg2))
          (m ((c : Thread nD τ).loc main_arg3)) (((cfg0.win 4).blk t).view.emb y) := by
  pointwise [k0_pay1, out, acc]
  blk_point [iblk, idx t]

/-- The result array after the run. -/
theorem final (c : Dev nD) : (dats m 0 c).arrAt 4 (cfgs 0).N
    = out (m ((c : Thread nD τ).loc main_arg0)) (m ((c : Thread nD τ).loc main_arg1)) (m ((c : Thread nD τ).loc main_arg2))
          (m ((c : Thread nD τ).loc main_arg3)) := by
  refine (dats m 0 c).arrAt_eq_of_covers 4 _ (by decide +kernel) fun t _ y => ?_
  blk_simp
  rw [after0_4]; frame_out
  exact point m c t y

end Cert.OutprojIdeal.Whole
end
-- ==== Proof.OutprojTerm.lean ====
module

public import proofs.«01_k».proof.Proof.OutprojValue
public import proofs.«01_k».proof.Proof.Gen.OutprojReferenceIdeal.Run
public import Idealize.ShloMosaic.Lib.Pointwise

@[expose] public section

set_option maxRecDepth 16384

/-! The reference of the out-projection, read at an index. -/

noncomputable section
open Idealize.ShloMosaic Idealize.ShloMosaic.TcCoe Idealize.SL.Sem
namespace Cert.OutprojReferenceIdeal.Term
open Cert.OutprojReferenceIdeal Cert.OutprojReferenceIdeal.Gen

/-- The sum before the norm. -/
def acc (y : FVec Ideal S16384x2048 .bf16) (x : FVec Ideal S1x16384x2048 .f32) (w : FVec Ideal S1x2048x2048 .f32) :
    FVec Ideal S16384x2048 .f32 :=
  addf (shapeCast _ x shapeCasts_S1x16384x2048_S16384x2048)
    (Host.dotGeneral dot_S16384x2048_S2048x2048_S16384x2048_1_0_0_1_n_n none (extf .f32 y bitsLt_bf16_f32)
      (shapeCast _ w shapeCasts_S1x2048x2048_S2048x2048))

/-- An array normalised along its rows and scaled. -/
def norm (a : FVec Ideal S16384x2048 .f32) (g : FVec Ideal S2048 .f32) : FVec Ideal S16384x2048 .f32 :=
  mulf (mulf a (broadcastInDim S16384x2048 ![0, 1] bcast_S16384x1_S16384x2048_0_1
      (Host.rsqrt (addf (Host.divf (broadcastInDim S16384x1 ![0] bcast_S16384_S16384x1_0
          (Host.reduceAdd (mulf a a) (constant S_ .f32 0x00000000#32) reducesTo_S16384x2048_S16384_d1 h_S_))
        (broadcastInDim S16384x1 ![] bcast_S_S16384x1 (constant S_ .f32 0x45000000#32)))
      (broadcastInDim S16384x1 ![] bcast_S_S16384x1 (constant S_ .f32 0x358637BD#32))))))
    (broadcastInDim S16384x2048 ![0, 1] bcast_S1x2048_S16384x2048_0_1 (broadcastInDim S1x2048 ![1] bcast_S2048_S1x2048_1 g))

/-- The reference's sum is the kernel's, the two terms in the other order. -/
theorem acc_at (y : FVec Ideal S16384x2048 .bf16) (x : FVec Ideal S1x16384x2048 .f32) (w : FVec Ideal S1x2048x2048 .f32)
    (r : Fin 16384) (l : Fin 2048) : acc y x w (ix2 r l) = Cert.OutprojIdeal.Whole.acc y x w r l := by
  unfold Cert.OutprojIdeal.Whole.acc
  pointwise [acc]
  exact add_comm _ _

/-- The norm at an index. -/
theorem norm_at (a : FVec Ideal S16384x2048 .f32) (g : FVec Ideal S2048 .f32) (r : Fin 16384) (l : Fin 2048) :
    norm a g (ix2 r l) = a (ix2 r l)
      * Ideal.rsqrt (Ideal.div (∑ k : Fin 2048, a (ix2 r k) * a (ix2 r k)) (Ideal.ofBits .f32 0x45000000#32)
          + Ideal.ofBits .f32 0x358637BD#32)
      * g (ix1 l) := by
  pointwise [norm]

/-- The reference's result is the kernel's. -/
theorem eq_out (y : FVec Ideal S16384x2048 .bf16) (x : FVec Ideal S1x16384x2048 .f32) (w : FVec Ideal S1x2048x2048 .f32)
    (g : FVec Ideal S2048 .f32) : norm (acc y x w) g = Cert.OutprojIdeal.Whole.out y x w g := by
  funext i
  idx_vars i
  rw [norm_at]
  simp only [acc_at]
  rfl

end Cert.OutprojReferenceIdeal.Term
end
-- ==== Proof.OutprojClaims.lean ====
module

public import proofs.«01_k».proof.Defs
public import proofs.«01_k».proof.Proof.OutprojTerm
public import proofs.«01_k».proof.Proof.Gen.Outproj.Frame
public import Idealize.ShloMosaic.Lib.Quiescent

@[expose] public section

set_option maxRecDepth 16384

/-! The claims about the out-projection. -/

noncomputable section
open Idealize.ShloMosaic Idealize.ShloMosaic.TcCoe Idealize.SL.Sem
namespace Cert.Proof.OutprojClaims

/-- The reference leaves its arguments as they are and has no semaphores. -/
theorem frame_reference : Cert.quiescent_OutprojReferenceIdeal := fun m ρ _ =>
  (θ_run Cert.OutprojReferenceIdeal.defs _ _).mono (fun r h => ⟨fun c => (h c).2, sem_eq_zero_of_no_sems (by decide) r.2⟩)
    (Cert.OutprojReferenceIdeal.Value.run (F := Ideal) m ρ)

/-- Kernel and reference end in the same array. -/
theorem algebraic : Cert.algebraic_OutprojIdeal_OutprojReferenceIdeal := by
  pair_intro
  · run_from Cert.OutprojIdeal.Gen.run_main m g
  · run_from Cert.OutprojReferenceIdeal.Value.run m' g'
    refine Eq.trans ?_ (Cert.OutprojIdeal.Whole.final m c).symm
    exact Cert.OutprojReferenceIdeal.Term.eq_out _ _ _ _

end Cert.Proof.OutprojClaims
end
-- ==== Proof.lean ====
module

public import proofs.«01_k».proof.Defs
public import proofs.«01_k».proof.Proof.MixClaims
public import proofs.«01_k».proof.Proof.Gen.Memkv.Frame
public import proofs.«01_k».proof.Proof.Gen.Outproj.Frame
public import proofs.«01_k».proof.Proof.ProjClaims
public import proofs.«01_k».proof.Proof.MemkvClaims
public import proofs.«01_k».proof.Proof.OutprojClaims

@[expose] public section

noncomputable section

namespace Cert.Proof
open Idealize.ShloMosaic Idealize.SL.Sem

/-- The claims of the certificate, in its order. -/
theorem claim : Cert.Claim :=
  ⟨Cert.Kernel.Gen.facts, Cert.KernelIdeal.Gen.facts, Cert.ReferenceIdeal.Gen.facts,
    Cert.Memkv.Gen.facts, Cert.MemkvIdeal.Gen.facts, Cert.MemkvReferenceIdeal.Gen.facts,
    Cert.Outproj.Gen.facts, Cert.OutprojIdeal.Gen.facts, Cert.OutprojReferenceIdeal.Gen.facts,
    Cert.Mix.Gen.facts, Cert.MixIdeal.Gen.facts, Cert.MixReferenceIdeal.Gen.facts, Cert.Pre_finite.Gen.facts, Cert.On_attention.Gen.facts,
    ProjClaims.frame_kernel, ProjClaims.frame_kernel_ideal, ProjClaims.frame_reference,
    fun m ρ _ => Cert.Memkv.Gen.frame m ρ, fun m ρ _ => Cert.MemkvIdeal.Gen.frame m ρ, MemkvClaims.frame_reference,
    fun m ρ _ => Cert.Outproj.Gen.frame m ρ, fun m ρ _ => Cert.OutprojIdeal.Gen.frame m ρ, OutprojClaims.frame_reference,
    fun m ρ _ => Cert.Mix.Gen.frame m ρ, fun m ρ _ => Cert.MixIdeal.Gen.frame m ρ, fun m ρ _ => Cert.MixIdeal.Gen.frame m ρ,
    MixClaims.frame_reference, fun m ρ _ => MixClaims.frame_reference m ρ trivial,
    trivial, ProjClaims.algebraic, trivial, MemkvClaims.algebraic, trivial, OutprojClaims.algebraic,
    trivial, MixClaims.algebraic⟩

end Cert.Proof

end
